-- ==== Defs.lean ====
def Pre_Kernel [hPre_rows_named : Cert.Pre_rows_named.Facts] (m : (ℓ : Loc Cert.Kernel.nD Cert.Kernel.τ Cert.Kernel.sig) → Buf (Elt Bits) ℓ) : Prop :=
  ∀ c : Dev Cert.Kernel.nD,
    (Cert.Pre_rows_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_rows_named : Cert.Pre_rows_named.Facts] (m : (ℓ : Loc Cert.KernelIdeal.nD Cert.KernelIdeal.τ Cert.KernelIdeal.sig) → Buf (Elt Ideal) ℓ) : Prop :=
  ∀ c : Dev Cert.KernelIdeal.nD,
    (Cert.Pre_rows_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_rows_named_finite [hPre_rows_named_finite : Cert.Pre_rows_named_finite.Facts] (m : (ℓ : Loc Cert.KernelIdeal.nD Cert.KernelIdeal.τ Cert.KernelIdeal.sig) → Buf (Elt Ideal) ℓ) : Prop :=
  ∀ c : Dev Cert.KernelIdeal.nD,
    (Cert.Pre_rows_named_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_named_finite [hPre_rows_named_finite : Cert.Pre_rows_named_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_named_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_rows_named : Cert.Pre_rows_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_rows_named : Cert.Pre_rows_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_rows_named_finite [hKernelIdeal : Cert.KernelIdeal.Facts] [hPre_rows_named_finite : Cert.Pre_rows_named_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_named_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_rows_named_finite [hReferenceIdeal : Cert.ReferenceIdeal.Facts] [hPre_rows_named_finite : Cert.Pre_rows_named_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_named_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_rows_named_finite [hKernelIdeal : Cert.KernelIdeal.Facts] [hReferenceIdeal : Cert.ReferenceIdeal.Facts] [hPre_rows_named_finite : Cert.Pre_rows_named_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_named_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_rows_named : Cert.Pre_rows_named.Facts) (hPre_rows_named_finite : Cert.Pre_rows_named_finite.Facts),
    quiescent_Kernel (hKernel := hKernel) (hPre_rows_named := hPre_rows_named)
    ∧ quiescent_KernelIdeal (hKernelIdeal := hKernelIdeal) (hPre_rows_named := hPre_rows_named)
    ∧ quiescent_KernelIdeal_pre_rows_named_finite (hKernelIdeal := hKernelIdeal) (hPre_rows_named_finite := hPre_rows_named_finite)
    ∧ quiescent_ReferenceIdeal (hReferenceIdeal := hReferenceIdeal)
    ∧ quiescent_ReferenceIdeal_pre_rows_named_finite (hReferenceIdeal := hReferenceIdeal) (hPre_rows_named_finite := hPre_rows_named_finite)
    ∧ preserves_Kernel_KernelIdeal
    ∧ algebraic_KernelIdeal_ReferenceIdeal_pre_rows_named_finite (hKernelIdeal := hKernelIdeal) (hReferenceIdeal := hReferenceIdeal) (hPre_rows_named_finite := hPre_rows_named_finite)
-- ==== Pre_rows_named.lean ====
abbrev S16384x64 : Shape := ⟨2, ![16384, 64]⟩
abbrev S832x1024 : Shape := ⟨2, ![832, 1024]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel

variable [Facts]

def fn {F : FTy → Type} [FloatOps F] (main_arg0 : IVec S16384x64 32) (main_arg1 : FVec F S832x1024 .f32) (main_arg2 : FVec F S512x1024 .f32) (main_arg3 : FVec F S512 .f32) (main_arg4 : FVec F S256x512 .f32) (main_arg5 : FVec F S256 .f32) (main_arg6 : FVec F S1x256 .f32) (main_arg7 : FVec F S1 .f32) : IVec S_ 1 :=
  let main_c : IVec S_ 32 := constantI S_ 32 0#32
  let main_v0 : IVec S16384x64 32 := broadcastInDim S16384x64 ![] bcast_S_S16384x64 main_c
  let main_v1 : IVec S16384x64 1 := cmpi .sge main_arg0 main_v0
  let main_c_0 : IVec S_ 1 := constantI S_ 1 1#1
  let main_v2 : IVec S_ 1 := (fun x v => Host.reduce IntOp.andi x v reducesTo_S16384x64_S_d0_1 h_S_) main_v1 main_c_0
  let main_c_1 : IVec S_ 32 := constantI S_ 32 832#32
  let main_v3 : IVec S16384x64 32 := broadcastInDim S16384x64 ![] bcast_S_S16384x64 main_c_1
  let main_v4 : IVec S16384x64 1 := cmpi .slt main_arg0 main_v3
  let main_c_2 : IVec S_ 1 := constantI S_ 1 1#1
  let main_v5 : IVec S_ 1 := (fun x v => Host.reduce IntOp.andi x v reducesTo_S16384x64_S_d0_1 h_S_) main_v4 main_c_2
  let main_v6 : IVec S_ 1 := andi main_v2 main_v5
  main_v6
-- ==== Pre_rows_named_finite.lean ====
abbrev S16384x64 : Shape := ⟨2, ![16384, 64]⟩
abbrev S832x1024 : Shape := ⟨2, ![832, 1024]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S832x1024 : S_.BroadcastsInDim S832x1024 (![] : Fin 0 → Fin S832x1024.rank)
  reducesTo_S832x1024_S_d0_1 : S832x1024.ReducesTo [0, 1] S_
  bcast_S_S512x1024 : S_.BroadcastsInDim S512x1024 (![] : Fin 0 → Fin S512x1024.rank)
  reducesTo_S512x1024_S_d0_1 : S512x1024.ReducesTo [0, 1] S_

variable [Facts]

def fn_part1 {F : FTy → Type} [FloatOps F] (main_v11 : IVec S_ 1) (main_v15 : IVec S_ 1) : IVec S_ 1 :=
  let main_v16 : IVec S_ 1 := andi main_v11 main_v15
  main_v16

def fn {F : FTy → Type} [FloatOps F] (main_arg0 : IVec S16384x64 32) (main_arg1 : FVec F S832x1024 .f32) (main_arg2 : FVec F S512x1024 .f32) (main_arg3 : FVec F S512 .f32) (main_arg4 : FVec F S256x512 .f32) (main_arg5 : FVec F S256 .f32) (main_arg6 : FVec F S1x256 .f32) (main_arg7 : FVec F S1 .f32) : IVec S_ 1 :=
  let main_c : IVec S_ 32 := constantI S_ 32 0#32
  let main_v0 : IVec S16384x64 32 := broadcastInDim S16384x64 ![] bcast_S_S16384x64 main_c
  let main_v1 : IVec S16384x64 1 := cmpi .sge main_arg0 main_v0
  let main_c_0 : IVec S_ 1 := constantI S_ 1 1#1
  let main_v2 : IVec S_ 1 := (fun x v => Host.reduce IntOp.andi x v reducesTo_S16384x64_S_d0_1 h_S_) main_v1 main_c_0
  let main_c_1 : IVec S_ 32 := constantI S_ 32 832#32
  let main_v3 : IVec S16384x64 32 := broadcastInDim S16384x64 ![] bcast_S_S16384x64 main_c_1
  let main_v4 : IVec S16384x64 1 := cmpi .slt main_arg0 main_v3
  let main_c_2 : IVec S_ 1 := constantI S_ 1 1#1
  let main_v5 : IVec S_ 1 := (fun x v => Host.reduce IntOp.andi x v reducesTo_S16384x64_S_d0_1 h_S_) main_v4 main_c_2
  let main_v6 : IVec S_ 1 := andi main_v2 main_v5
  let main_v7 : FVec F S832x1024 .f32 := Host.absf main_arg1
  let main_cst : FVec F S_ .f32 := constant S_ .f32 0x7F800000#32
  let main_v8 : FVec F S832x1024 .f32 := broadcastInDim S832x1024 ![] bcast_S_S832x1024 main_cst
  let main_v9 : IVec S832x1024 1 := cmpf .olt main_v7 main_v8
  let main_c_3 : IVec S_ 1 := constantI S_ 1 1#1
  let main_v10 : IVec S_ 1 := (fun x v => Host.reduce IntOp.andi x v reducesTo_S832x1024_S_d0_1 h_S_) main_v9 main_c_3
  let main_v11 : IVec S_ 1 := andi main_v6 main_v10
  let main_v12 : FVec F S512x1024 .f32 := Host.absf main_arg2
  let main_cst_4 : FVec F S_ .f32 := constant S_ .f32 0x7F800000#32
  let main_v13 : FVec F S512x1024 .f32 := broadcastInDim S512x1024 ![] bcast_S_S512x1024 main_cst_4
  let main_v14 : IVec S512x1024 1 := cmpf .olt main_v12 main_v13
  let main_c_5 : IVec S_ 1 := constantI S_ 1 1#1
  let main_v15 : IVec S_ 1 := (fun x v => Host.reduce IntOp.andi x v reducesTo_S512x1024_S_d0_1 h_S_) main_v14 main_c_5
  fn_part1 (F := F) main_v11 main_v15
-- ==== Kernel.lean ====
abbrev S16384x64 : Shape := ⟨2, ![16384, 64]⟩
abbrev S832x1024 : Shape := ⟨2, ![832, 1024]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S1x256 : Shape := ⟨2, ![1, 256]⟩
abbrev S1 : Shape := ⟨1, ![1]⟩
abbrev S896x512 : Shape := ⟨2, ![896, 512]⟩
abbrev S64x512 : Shape := ⟨2, ![64, 512]⟩
abbrev S832x512 : Shape := ⟨2, ![832, 512]⟩
abbrev S1x512 : Shape := ⟨2, ![1, 512]⟩
abbrev S1x1 : Shape := ⟨2, ![1, 1]⟩
abbrev S8192x64 : Shape := ⟨2, ![8192, 64]⟩
abbrev S2097152 : Shape := ⟨1, ![2097152]⟩
abbrev S256x64 : Shape := ⟨2, ![256, 64]⟩
abbrev S4096 : Shape := ⟨1, ![4096]⟩
abbrev S_ : Shape := ⟨0, ![]⟩
abbrev S16 : Shape := ⟨1, ![16]⟩
abbrev S1024x2x8x128 : Shape := ⟨4, ![1024, 2, 8, 128]⟩
abbrev S8192x1 : Shape := ⟨2, ![8192, 1]⟩
abbrev S128x2x8x128 : Shape := ⟨4, ![128, 2, 8, 128]⟩
abbrev S1024x1 : Shape := ⟨2, ![1024, 1]⟩
abbrev S128x1x8x128 : Shape := ⟨4, ![128, 1, 8, 128]⟩
abbrev S128x8x128 : Shape := ⟨3, ![128, 8, 128]⟩
abbrev S1024x128 : Shape := ⟨2, ![1024, 128]⟩
abbrev S1024x896 : Shape := ⟨2, ![1024, 896]⟩
abbrev S1024x512 : Shape := ⟨2, ![1024, 512]⟩
abbrev S1024x256 : Shape := ⟨2, ![1024, 256]⟩
abbrev S1024 : Shape := ⟨1, ![1024]⟩
abbrev S16384x1 : Shape := ⟨2, ![16384, 1]⟩

abbrev nBuf : Table → Nat
  | .hbm => 21
  | .local .tc .vmem => 23
  | .local .scVector .vmem => 6
  | _ => 0

abbrev bufTy : (tb : Table) → Fin (nBuf tb) → BufTy
  | .hbm, ⟨0, _⟩ => ⟨S16384x64, .i32⟩
  | .hbm, ⟨1, _⟩ => ⟨S832x1024, .f32⟩
  | .hbm, ⟨2, _⟩ => ⟨S512x1024, .f32⟩
  | .hbm, ⟨3, _⟩ => ⟨S512, .f32⟩
  | .hbm, ⟨4, _⟩ => ⟨S256x512, .f32⟩
  | .hbm, ⟨5, _⟩ => ⟨S256, .f32⟩
  | .hbm, ⟨6, _⟩ => ⟨S1x256, .f32⟩
  | .hbm, ⟨7, _⟩ => ⟨S1, .f32⟩
  | .hbm, ⟨8, _⟩ => ⟨S896x512, .bf16⟩
  | .hbm, ⟨9, _⟩ => ⟨S1x512, .f32⟩
  | .hbm, ⟨10, _⟩ => ⟨S1x256, .f32⟩
  | .hbm, ⟨11, _⟩ => ⟨S1x1, .f32⟩
  | .hbm, ⟨12, _⟩ => ⟨S8192x64, .i32⟩
  | .hbm, ⟨13, _⟩ => ⟨S2097152, .i32⟩
  | .hbm, ⟨14, _⟩ => ⟨S1024x2x8x128, .i32⟩
  | .hbm, ⟨15, _⟩ => ⟨S8192x1, .f32⟩
  | .hbm, ⟨16, _⟩ => ⟨S8192x64, .i32⟩
  | .hbm, ⟨17, _⟩ => ⟨S2097152, .i32⟩
  | .hbm, ⟨18, _⟩ => ⟨S1024x2x8x128, .i32⟩
  | .hbm, ⟨19, _⟩ => ⟨S8192x1, .f32⟩
  | .hbm, ⟨20, _⟩ => ⟨S16384x1, .f32⟩
  | .local .tc .vmem, ⟨0, _⟩ => ⟨S832x1024, .f32⟩
  | .local .tc .vmem, ⟨1, _⟩ => ⟨S512x1024, .f32⟩
  | .local .tc .vmem, ⟨2, _⟩ => ⟨S896x512, .bf16⟩
  | .local .tc .vmem, ⟨3, _⟩ => ⟨S128x2x8x128, .i32⟩
  | .local .tc .vmem, ⟨4, _⟩ => ⟨S128x2x8x128, .i32⟩
  | .local .tc .vmem, ⟨5, _⟩ => ⟨S896x512, .bf16⟩
  | .local .tc .vmem, ⟨6, _⟩ => ⟨S1x512, .f32⟩
  | .local .tc .vmem, ⟨7, _⟩ => ⟨S256x512, .f32⟩
  | .local .tc .vmem, ⟨8, _⟩ => ⟨S1x256, .f32⟩
  | .local .tc .vmem, ⟨9, _⟩ => ⟨S1x256, .f32⟩
  | .local .tc .vmem, ⟨10, _⟩ => ⟨S1x1, .f32⟩
  | .local .tc .vmem, ⟨11, _⟩ => ⟨S1024x1, .f32⟩
  | .local .tc .vmem, ⟨12, _⟩ => ⟨S1024x1, .f32⟩
  | .local .tc .vmem, ⟨13, _⟩ => ⟨S128x2x8x128, .i32⟩
  | .local .tc .vmem, ⟨14, _⟩ => ⟨S128x2x8x128, .i32⟩
  | .local .tc .vmem, ⟨15, _⟩ => ⟨S896x512, .bf16⟩
  | .local .tc .vmem, ⟨16, _⟩ => ⟨S1x512, .f32⟩
  | .local .tc .vmem, ⟨17, _⟩ => ⟨S256x512, .f32⟩
  | .local .tc .vmem, ⟨18, _⟩ => ⟨S1x256, .f32⟩
  | .local .tc .vmem, ⟨19, _⟩ => ⟨S1x256, .f32⟩
  | .local .tc .vmem, ⟨20, _⟩ => ⟨S1x1, .f32⟩
  | .local .tc .vmem, ⟨21, _⟩ => ⟨S1024x1, .f32⟩
  | .local .tc .vmem, ⟨22, _⟩ => ⟨S1024x1, .f32⟩
  | .local .scVector .vmem, ⟨0, _⟩ => ⟨S256x64, .i32⟩
  | .local .scVector .vmem, ⟨1, _⟩ => ⟨S4096, .i32⟩
  | .local .scVector .vmem, ⟨2, _⟩ => ⟨S4096, .i32⟩
  | .local .scVector .vmem, ⟨3, _⟩ => ⟨S256x64, .i32⟩
  | .local .scVector .vmem, ⟨4, _⟩ => ⟨S4096, .i32⟩
  | .local .scVector .vmem, ⟨5, _⟩ => ⟨S4096, .i32⟩
  | _, _ => ⟨S16384x64, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 29 → Bool
  | ⟨0, _⟩ => true
  | ⟨1, _⟩ => true
  | ⟨2, _⟩ => true
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | ⟨17, _⟩ => false
  | ⟨18, _⟩ => false
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTables nBuf rfl bufTy 4 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v4_scv : Ref sig .scVector := ⟨.hbm, 12, rfl⟩
abbrev main_v5_scv : Ref sig .scVector := ⟨.hbm, 13, rfl⟩
abbrev main_v8_scv : Ref sig .scVector := ⟨.hbm, 16, rfl⟩
abbrev main_v9_scv : Ref sig .scVector := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc2_stg0_0 : Ref sig .tc := ⟨.vmem, 3, rfl⟩
abbrev cc2_stg0_1 : Ref sig .tc := ⟨.vmem, 4, rfl⟩
abbrev cc2_stg1_0 : Ref sig .tc := ⟨.vmem, 5, rfl⟩
abbrev cc2_stg2_0 : Ref sig .tc := ⟨.vmem, 6, rfl⟩
abbrev cc2_stg3_0 : Ref sig .tc := ⟨.vmem, 7, rfl⟩
abbrev cc2_stg4_0 : Ref sig .tc := ⟨.vmem, 8, rfl⟩
abbrev cc2_stg5_0 : Ref sig .tc := ⟨.vmem, 9, rfl⟩
abbrev cc2_stg6_0 : Ref sig .tc := ⟨.vmem, 10, rfl⟩
abbrev cc2_stg7_0 : Ref sig .tc := ⟨.vmem, 11, rfl⟩
abbrev cc2_stg7_1 : Ref sig .tc := ⟨.vmem, 12, rfl⟩
abbrev cc4_stg0_0 : Ref sig .tc := ⟨.vmem, 13, rfl⟩
abbrev cc4_stg0_1 : Ref sig .tc := ⟨.vmem, 14, rfl⟩
abbrev cc4_stg1_0 : Ref sig .tc := ⟨.vmem, 15, rfl⟩
abbrev cc4_stg2_0 : Ref sig .tc := ⟨.vmem, 16, rfl⟩
abbrev cc4_stg3_0 : Ref sig .tc := ⟨.vmem, 17, rfl⟩
abbrev cc4_stg4_0 : Ref sig .tc := ⟨.vmem, 18, rfl⟩
abbrev cc4_stg5_0 : Ref sig .tc := ⟨.vmem, 19, rfl⟩
abbrev cc4_stg6_0 : Ref sig .tc := ⟨.vmem, 20, rfl⟩
abbrev cc4_stg7_0 : Ref sig .tc := ⟨.vmem, 21, rfl⟩
abbrev cc4_stg7_1 : Ref sig .tc := ⟨.vmem, 22, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc3_scratch0 : Ref sig .scVector := ⟨.vmem, 3, rfl⟩
abbrev cc3_scratch1 : Ref sig .scVector := ⟨.vmem, 4, rfl⟩
abbrev cc3_scratch2 : Ref sig .scVector := ⟨.vmem, 5, rfl⟩
abbrev cc0_sem0_0 : DmaSem sig := 0
abbrev cc0_sem1_0 : DmaSem sig := 1
abbrev cc0_sem2_0 : DmaSem sig := 2
abbrev cc2_sem0_0 : DmaSem sig := 6
abbrev cc2_sem0_1 : DmaSem sig := 7
abbrev cc2_sem1_0 : DmaSem sig := 8
abbrev cc2_sem2_0 : DmaSem sig := 9
abbrev cc2_sem3_0 : DmaSem sig := 10
abbrev cc2_sem4_0 : DmaSem sig := 11
abbrev cc2_sem5_0 : DmaSem sig := 12
abbrev cc2_sem6_0 : DmaSem sig := 13
abbrev cc2_sem7_0 : DmaSem sig := 14
abbrev cc2_sem7_1 : DmaSem sig := 15
abbrev cc4_sem0_0 : DmaSem sig := 19
abbrev cc4_sem0_1 : DmaSem sig := 20
abbrev cc4_sem1_0 : DmaSem sig := 21
abbrev cc4_sem2_0 : DmaSem sig := 22
abbrev cc4_sem3_0 : DmaSem sig := 23
abbrev cc4_sem4_0 : DmaSem sig := 24
abbrev cc4_sem5_0 : DmaSem sig := 25
abbrev cc4_sem6_0 : DmaSem sig := 26
abbrev cc4_sem7_0 : DmaSem sig := 27
abbrev cc4_sem7_1 : DmaSem sig := 28
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S832x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S896x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_8_r0 : BitVec 32 := 0#32
  ![v2.toNat, 0]
@[reducible] def k1_t1_loop : Scf.Loop 32 :=
  let c0_i32_1 : BitVec 32 := 0#32
  let c8_i32 : BitVec 32 := 8#32
  let v15 : BitVec 32 := Scalar.addi c0_i32_1 c8_i32
  let c1_i32_2 : BitVec 32 := 1#32
  ⟨c0_i32_1, v15, c1_i32_2⟩
@[reducible] def k1_t2_loop : Scf.Loop 32 :=
  let c0_i32_12 : BitVec 32 := 0#32
  let c256_i32_13 : BitVec 32 := 256#32
  let v25 : BitVec 32 := Scalar.addi c0_i32_12 c256_i32_13
  let c1_i32_14 : BitVec 32 := 1#32
  ⟨c0_i32_12, v25, c1_i32_14⟩
def k1_off2 (k1_t2 : Fin k1_t2_loop.trips) : Fin 1 → Nat :=
  let c0_i32_37 : BitVec 32 := 0#32
  let c0_i32_12 : BitVec 32 := 0#32
  let c1_i32_14 : BitVec 32 := 1#32
  let arg10 : BitVec 32 := Scf.iv c0_i32_12 c1_i32_14 k1_t2
  let c16_i32_36 : BitVec 32 := 16#32
  let v46 : BitVec 32 := Scalar.muli arg10 c16_i32_36
  let v47 : BitVec 32 := Scalar.addi c0_i32_37 v46
  let v48 : Index := Scalar.indexCast v47
  ![v48.toNat]
@[reducible] def k1_t3_loop : Scf.Loop 32 :=
  let c0_i32_16 : BitVec 32 := 0#32
  let c64_i32 : BitVec 32 := 64#32
  let v27 : BitVec 32 := Scalar.addi c0_i32_16 c64_i32
  let c1_i32_17 : BitVec 32 := 1#32
  ⟨c0_i32_16, v27, c1_i32_17⟩

def k1_chk1 (v49 : IVec S16 32) (v53 : IVec S16 32) : Prop :=
  (∀ a x, ((![v49, v53] : Fin 2 → IVec S16 32) a x).toNat < S256x64.size a)
theorem k1_idx1_inb : ∀ (v49 : IVec S16 32) (v53 : IVec S16 32) (k1_hw1 : k1_chk1 v49 v53), ∀ a x, ((![v49, v53] : Fin 2 → IVec S16 32) a x).toNat < S256x64.size a := fun v49 v53 k1_hw1 => k1_hw1

def k1_chk2 (v62 : IVec S16 32) : Prop :=
  (∀ a x, ((![v62] : Fin 1 → IVec S16 32) a x).toNat < S4096.size a)
theorem k1_idx2_inb : ∀ (v62 : IVec S16 32) (k1_hw2 : k1_chk2 v62), ∀ a x, ((![v62] : Fin 1 → IVec S16 32) a x).toNat < S4096.size a := fun v62 k1_hw2 => k1_hw2
def k1_off3 (i : grid1.Coords) (k1_t1 : Fin k1_t1_loop.trips) (c0_i32_9 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_1 : BitVec 32 := 0#32
  let c1_i32_2 : BitVec 32 := 1#32
  let arg9 : BitVec 32 := Scf.iv c0_i32_1 c1_i32_2 k1_t1
  let c2_i32_8 : BitVec 32 := 2#32
  let v20 : BitVec 32 := Scalar.muli arg9 c2_i32_8
  let v21 : BitVec 32 := Scalar.addi v20 c0_i32_9
  let c16_i32_19 : BitVec 32 := 16#32
  let v28 : BitVec 32 := Scalar.muli v21 c16_i32_19
  let v29 : BitVec 32 := Scalar.addi v2 v28
  let c256_i32_20 : BitVec 32 := 256#32
  let v30 : BitVec 32 := Scalar.muli v29 c256_i32_20
  ![v30.toNat]
@[reducible] def k1_t4_loop : Scf.Loop 32 :=
  let c0_i32_25 : BitVec 32 := 0#32
  let c256_i32_26 : BitVec 32 := 256#32
  let v38 : BitVec 32 := Scalar.addi c0_i32_25 c256_i32_26
  let c1_i32_27 : BitVec 32 := 1#32
  ⟨c0_i32_25, v38, c1_i32_27⟩
def k1_off4 (k1_t4 : Fin k1_t4_loop.trips) : Fin 1 → Nat :=
  let c0_i32_37 : BitVec 32 := 0#32
  let c0_i32_25 : BitVec 32 := 0#32
  let c1_i32_27 : BitVec 32 := 1#32
  let arg10 : BitVec 32 := Scf.iv c0_i32_25 c1_i32_27 k1_t4
  let c16_i32_36 : BitVec 32 := 16#32
  let v46 : BitVec 32 := Scalar.muli arg10 c16_i32_36
  let v47 : BitVec 32 := Scalar.addi c0_i32_37 v46
  let v48 : Index := Scalar.indexCast v47
  ![v48.toNat]
@[reducible] def k1_t5_loop : Scf.Loop 32 :=
  let c0_i32_30 : BitVec 32 := 0#32
  let c64_i32_31 : BitVec 32 := 64#32
  let v40 : BitVec 32 := Scalar.addi c0_i32_30 c64_i32_31
  let c1_i32_32 : BitVec 32 := 1#32
  ⟨c0_i32_30, v40, c1_i32_32⟩

def k1_chk3 (v49 : IVec S16 32) (v53 : IVec S16 32) : Prop :=
  (∀ a x, ((![v49, v53] : Fin 2 → IVec S16 32) a x).toNat < S256x64.size a)
theorem k1_idx3_inb : ∀ (v49 : IVec S16 32) (v53 : IVec S16 32) (k1_hw3 : k1_chk3 v49 v53), ∀ a x, ((![v49, v53] : Fin 2 → IVec S16 32) a x).toNat < S256x64.size a := fun v49 v53 k1_hw3 => k1_hw3

def k1_chk4 (v62 : IVec S16 32) : Prop :=
  (∀ a x, ((![v62] : Fin 1 → IVec S16 32) a x).toNat < S4096.size a)
theorem k1_idx4_inb : ∀ (v62 : IVec S16 32) (k1_hw4 : k1_chk4 v62), ∀ a x, ((![v62] : Fin 1 → IVec S16 32) a x).toNat < S4096.size a := fun v62 k1_hw4 => k1_hw4
abbrev grid2 : Pipeline.Grid := ⟨1, ![8], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x2x8x128 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S896x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1024x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨2, ![2, 16], ![false, false]⟩

def k3_off1 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_8_r0 : BitVec 32 := 0#32
  ![v2.toNat, 0]
@[reducible] def k3_t1_loop : Scf.Loop 32 :=
  let c0_i32_1 : BitVec 32 := 0#32
  let c8_i32 : BitVec 32 := 8#32
  let v15 : BitVec 32 := Scalar.addi c0_i32_1 c8_i32
  let c1_i32_2 : BitVec 32 := 1#32
  ⟨c0_i32_1, v15, c1_i32_2⟩
@[reducible] def k3_t2_loop : Scf.Loop 32 :=
  let c0_i32_12 : BitVec 32 := 0#32
  let c256_i32_13 : BitVec 32 := 256#32
  let v25 : BitVec 32 := Scalar.addi c0_i32_12 c256_i32_13
  let c1_i32_14 : BitVec 32 := 1#32
  ⟨c0_i32_12, v25, c1_i32_14⟩
def k3_off2 (k3_t2 : Fin k3_t2_loop.trips) : Fin 1 → Nat :=
  let c0_i32_37 : BitVec 32 := 0#32
  let c0_i32_12 : BitVec 32 := 0#32
  let c1_i32_14 : BitVec 32 := 1#32
  let arg10 : BitVec 32 := Scf.iv c0_i32_12 c1_i32_14 k3_t2
  let c16_i32_36 : BitVec 32 := 16#32
  let v46 : BitVec 32 := Scalar.muli arg10 c16_i32_36
  let v47 : BitVec 32 := Scalar.addi c0_i32_37 v46
  let v48 : Index := Scalar.indexCast v47
  ![v48.toNat]
@[reducible] def k3_t3_loop : Scf.Loop 32 :=
  let c0_i32_16 : BitVec 32 := 0#32
  let c64_i32 : BitVec 32 := 64#32
  let v27 : BitVec 32 := Scalar.addi c0_i32_16 c64_i32
  let c1_i32_17 : BitVec 32 := 1#32
  ⟨c0_i32_16, v27, c1_i32_17⟩

def k3_chk1 (v49 : IVec S16 32) (v53 : IVec S16 32) : Prop :=
  (∀ a x, ((![v49, v53] : Fin 2 → IVec S16 32) a x).toNat < S256x64.size a)
theorem k3_idx1_inb : ∀ (v49 : IVec S16 32) (v53 : IVec S16 32) (k3_hw1 : k3_chk1 v49 v53), ∀ a x, ((![v49, v53] : Fin 2 → IVec S16 32) a x).toNat < S256x64.size a := fun v49 v53 k3_hw1 => k3_hw1

def k3_chk2 (v62 : IVec S16 32) : Prop :=
  (∀ a x, ((![v62] : Fin 1 → IVec S16 32) a x).toNat < S4096.size a)
theorem k3_idx2_inb : ∀ (v62 : IVec S16 32) (k3_hw2 : k3_chk2 v62), ∀ a x, ((![v62] : Fin 1 → IVec S16 32) a x).toNat < S4096.size a := fun v62 k3_hw2 => k3_hw2
def k3_off3 (i : grid3.Coords) (k3_t1 : Fin k3_t1_loop.trips) (c0_i32_9 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_1 : BitVec 32 := 0#32
  let c1_i32_2 : BitVec 32 := 1#32
  let arg9 : BitVec 32 := Scf.iv c0_i32_1 c1_i32_2 k3_t1
  let c2_i32_8 : BitVec 32 := 2#32
  let v20 : BitVec 32 := Scalar.muli arg9 c2_i32_8
  let v21 : BitVec 32 := Scalar.addi v20 c0_i32_9
  let c16_i32_19 : BitVec 32 := 16#32
  let v28 : BitVec 32 := Scalar.muli v21 c16_i32_19
  let v29 : BitVec 32 := Scalar.addi v2 v28
  let c256_i32_20 : BitVec 32 := 256#32
  let v30 : BitVec 32 := Scalar.muli v29 c256_i32_20
  ![v30.toNat]
@[reducible] def k3_t4_loop : Scf.Loop 32 :=
  let c0_i32_25 : BitVec 32 := 0#32
  let c256_i32_26 : BitVec 32 := 256#32
  let v38 : BitVec 32 := Scalar.addi c0_i32_25 c256_i32_26
  let c1_i32_27 : BitVec 32 := 1#32
  ⟨c0_i32_25, v38, c1_i32_27⟩
def k3_off4 (k3_t4 : Fin k3_t4_loop.trips) : Fin 1 → Nat :=
  let c0_i32_37 : BitVec 32 := 0#32
  let c0_i32_25 : BitVec 32 := 0#32
  let c1_i32_27 : BitVec 32 := 1#32
  let arg10 : BitVec 32 := Scf.iv c0_i32_25 c1_i32_27 k3_t4
  let c16_i32_36 : BitVec 32 := 16#32
  let v46 : BitVec 32 := Scalar.muli arg10 c16_i32_36
  let v47 : BitVec 32 := Scalar.addi c0_i32_37 v46
  let v48 : Index := Scalar.indexCast v47
  ![v48.toNat]
@[reducible] def k3_t5_loop : Scf.Loop 32 :=
  let c0_i32_30 : BitVec 32 := 0#32
  let c64_i32_31 : BitVec 32 := 64#32
  let v40 : BitVec 32 := Scalar.addi c0_i32_30 c64_i32_31
  let c1_i32_32 : BitVec 32 := 1#32
  ⟨c0_i32_30, v40, c1_i32_32⟩

def k3_chk3 (v49 : IVec S16 32) (v53 : IVec S16 32) : Prop :=
  (∀ a x, ((![v49, v53] : Fin 2 → IVec S16 32) a x).toNat < S256x64.size a)
theorem k3_idx3_inb : ∀ (v49 : IVec S16 32) (v53 : IVec S16 32) (k3_hw3 : k3_chk3 v49 v53), ∀ a x, ((![v49, v53] : Fin 2 → IVec S16 32) a x).toNat < S256x64.size a := fun v49 v53 k3_hw3 => k3_hw3

def k3_chk4 (v62 : IVec S16 32) : Prop :=
  (∀ a x, ((![v62] : Fin 1 → IVec S16 32) a x).toNat < S4096.size a)
theorem k3_idx4_inb : ∀ (v62 : IVec S16 32) (k3_hw4 : k3_chk4 v62), ∀ a x, ((![v62] : Fin 1 → IVec S16 32) a x).toNat < S4096.size a := fun v62 k3_hw4 => k3_hw4
abbrev grid4 : Pipeline.Grid := ⟨1, ![8], ![false]⟩

def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S128x2x8x128 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S896x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S1024x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16384x64 : Shape := ⟨2, ![16384, 64]⟩
abbrev S832x1024 : Shape := ⟨2, ![832, 1024]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S1x256 : Shape := ⟨2, ![1, 256]⟩
abbrev S1 : Shape := ⟨1, ![1]⟩
abbrev S_ : Shape := ⟨0, ![]⟩
abbrev S16384x64x1 : Shape := ⟨3, ![16384, 64, 1]⟩
abbrev S1x1x1 : Shape := ⟨3, ![1, 1, 1]⟩
abbrev S16384x64x1024 : Shape := ⟨3, ![16384, 64, 1024]⟩
abbrev S16384x1024 : Shape := ⟨2, ![16384, 1024]⟩
abbrev S1024x512 : Shape := ⟨2, ![1024, 512]⟩
abbrev S16384x512 : Shape := ⟨2, ![16384, 512]⟩
abbrev S1x512 : Shape := ⟨2, ![1, 512]⟩
abbrev S512x256 : Shape := ⟨2, ![512, 256]⟩
abbrev S16384x256 : Shape := ⟨2, ![16384, 256]⟩
abbrev S256x1 : Shape := ⟨2, ![256, 1]⟩
abbrev S16384x1 : Shape := ⟨2, ![16384, 1]⟩
abbrev S1x1 : Shape := ⟨2, ![1, 1]⟩

abbrev nBuf : Space → Nat
  | .hbm => 54
  | .vmem => 0
  | .smem => 0
  | _ => 0

abbrev bufTy : (tb : Table) → Fin (tcTables nBuf tb) → BufTy
  | .hbm, ⟨0, _⟩ => ⟨S16384x64, .i32⟩
  | .hbm, ⟨1, _⟩ => ⟨S832x1024, .f32⟩
  | .hbm, ⟨2, _⟩ => ⟨S512x1024, .f32⟩
  | .hbm, ⟨3, _⟩ => ⟨S512, .f32⟩
  | .hbm, ⟨4, _⟩ => ⟨S256x512, .f32⟩
  | .hbm, ⟨5, _⟩ => ⟨S256, .f32⟩
  | .hbm, ⟨6, _⟩ => ⟨S1x256, .f32⟩
  | .hbm, ⟨7, _⟩ => ⟨S1, .f32⟩
  | .hbm, ⟨8, _⟩ => ⟨S_, .i32⟩
  | .hbm, ⟨9, _⟩ => ⟨S16384x64, .i32⟩
  | .hbm, ⟨10, _⟩ => ⟨S16384x64, .i1⟩
  | .hbm, ⟨11, _⟩ => ⟨S_, .i32⟩
  | .hbm, ⟨12, _⟩ => ⟨S16384x64, .i32⟩
  | .hbm, ⟨13, _⟩ => ⟨S16384x64, .i32⟩
  | .hbm, ⟨14, _⟩ => ⟨S16384x64, .i32⟩
  | .hbm, ⟨15, _⟩ => ⟨S16384x64x1, .i32⟩
  | .hbm, ⟨16, _⟩ => ⟨S1, .i32⟩
  | .hbm, ⟨17, _⟩ => ⟨S_, .i32⟩
  | .hbm, ⟨18, _⟩ => ⟨S16384x64x1, .i32⟩
  | .hbm, ⟨19, _⟩ => ⟨S16384x64x1, .i1⟩
  | .hbm, ⟨20, _⟩ => ⟨S1x1x1, .i32⟩
  | .hbm, ⟨21, _⟩ => ⟨S16384x64x1, .i32⟩
  | .hbm, ⟨22, _⟩ => ⟨S16384x64x1, .i1⟩
  | .hbm, ⟨23, _⟩ => ⟨S16384x64x1, .i1⟩
  | .hbm, ⟨24, _⟩ => ⟨S_, .i1⟩
  | .hbm, ⟨25, _⟩ => ⟨S16384x64, .i1⟩
  | .hbm, ⟨26, _⟩ => ⟨S16384x64x1024, .f32⟩
  | .hbm, ⟨27, _⟩ => ⟨S16384x64x1024, .i1⟩
  | .hbm, ⟨28, _⟩ => ⟨S_, .f32⟩
  | .hbm, ⟨29, _⟩ => ⟨S16384x64x1024, .f32⟩
  | .hbm, ⟨30, _⟩ => ⟨S16384x64x1024, .f32⟩
  | .hbm, ⟨31, _⟩ => ⟨S_, .f32⟩
  | .hbm, ⟨32, _⟩ => ⟨S16384x1024, .f32⟩
  | .hbm, ⟨33, _⟩ => ⟨S1024x512, .f32⟩
  | .hbm, ⟨34, _⟩ => ⟨S16384x512, .f32⟩
  | .hbm, ⟨35, _⟩ => ⟨S1x512, .f32⟩
  | .hbm, ⟨36, _⟩ => ⟨S16384x512, .f32⟩
  | .hbm, ⟨37, _⟩ => ⟨S16384x512, .f32⟩
  | .hbm, ⟨38, _⟩ => ⟨S_, .f32⟩
  | .hbm, ⟨39, _⟩ => ⟨S16384x512, .f32⟩
  | .hbm, ⟨40, _⟩ => ⟨S16384x512, .f32⟩
  | .hbm, ⟨41, _⟩ => ⟨S512x256, .f32⟩
  | .hbm, ⟨42, _⟩ => ⟨S16384x256, .f32⟩
  | .hbm, ⟨43, _⟩ => ⟨S1x256, .f32⟩
  | .hbm, ⟨44, _⟩ => ⟨S16384x256, .f32⟩
  | .hbm, ⟨45, _⟩ => ⟨S16384x256, .f32⟩
  | .hbm, ⟨46, _⟩ => ⟨S_, .f32⟩
  | .hbm, ⟨47, _⟩ => ⟨S16384x256, .f32⟩
  | .hbm, ⟨48, _⟩ => ⟨S16384x256, .f32⟩
  | .hbm, ⟨49, _⟩ => ⟨S256x1, .f32⟩
  | .hbm, ⟨50, _⟩ => ⟨S16384x1, .f32⟩
  | .hbm, ⟨51, _⟩ => ⟨S1x1, .f32⟩
  | .hbm, ⟨52, _⟩ => ⟨S16384x1, .f32⟩
  | .hbm, ⟨53, _⟩ => ⟨S16384x1, .f32⟩
  | _, _ => ⟨S16384x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_cst : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_call1_cst : Ref sig .tc := ⟨.hbm, 38, rfl⟩
abbrev main_call1_v0 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_call2_cst : Ref sig .tc := ⟨.hbm, 46, rfl⟩
abbrev main_call2_v0 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩

abbrev nD : Nat := 1
abbrev τ : Topo := Topo.v7x

variable {F : FTy → Type} [FloatOps F]
-- ==== Proof.Hist.lean ====
/-
  The arithmetic of the histogram kernel, on natural numbers and words. A tile keeps, for sixteen rows at a time, a buffer
  of 4096 words in which four counts are packed to a word, one per byte. Lane `l` reads its own row, at step `p` the entry
  in column `(l + p) % 64`, and adds one unit at the byte and word that entry names.

  `acc` is that buffer after some steps, as a sum over steps and lanes. `outWord` is the word the whole kernel leaves at a
  flat position of its result, as a sum over the columns of one row. `acc_full` says the two agree once all 64 steps are
  done, and `byte_outWord` that a byte of the word is the number of times one value occurs in the row.
-/
module

public import proofs.«01_k».proof.Proof.Gen.KernelIdeal.Skeleton
public import Idealize.ShloMosaic.Lib.ValueIdxCore
public import Mathlib.Algebra.BigOperators.Fin
public import Mathlib.Data.BitVec
public import Mathlib.Tactic.IntervalCases

@[expose] public section

noncomputable section

namespace Cert.Proof.Hist

open Cert.KernelIdeal Cert.KernelIdeal.Gen Idealize.ShloMosaic
open scoped BigOperators

/-! ## Words and bytes -/

/-- The word of the buffer where lane `l` counts the value `v`. -/
def slot (l v : ℕ) : ℕ := l / 8 * 2048 + l % 8 * 128 + v / 512 * 1024 + v % 128

/-- What counting the value `v` once adds to its word: one unit at the byte `v` belongs to. -/
def unitOf (v : ℕ) : ℕ := 2 ^ (8 * (v / 128 % 4))

/-- The buffer's word `w` after `n` steps over the sixteen rows from row `b` of `R`. -/
def acc (R : ℕ → ℕ → BitVec 32) (b n w : ℕ) : BitVec 32 :=
  ∑ p ∈ Finset.range n, ∑ l : Fin 16,
    if slot l (R (b + l) ((l + p) % 64)).toNat = w then BitVec.ofNat 32 (unitOf (R (b + l) ((l + p) % 64)).toNat) else 0

/-- Row `r`'s units in the word of half `j` and column `c`, as a natural number. -/
def packN (R : ℕ → ℕ → BitVec 32) (r j c : ℕ) : ℕ :=
  ∑ q ∈ Finset.range 64, if (R r q).toNat / 512 = j ∧ (R r q).toNat % 128 = c then unitOf (R r q).toNat else 0

/-- The word at flat position `f` of the kernel's result. -/
def outWord (R : ℕ → ℕ → BitVec 32) (f : ℕ) : BitVec 32 :=
  BitVec.ofNat 32 (packN R (f / 2048 * 8 + f % 1024 / 128) (f % 2048 / 1024) (f % 128))

/-- How often the value `v` occurs in row `r` of `R`. -/
def count (R : ℕ → ℕ → BitVec 32) (r v : ℕ) : ℕ := ((Finset.range 64).filter fun q => (R r q).toNat = v).card

theorem ofNat_sum {ι : Type} (s : Finset ι) (f : ι → ℕ) : BitVec.ofNat 32 (∑ i ∈ s, f i) = ∑ i ∈ s, BitVec.ofNat 32 (f i) := by
  classical
  induction s using Finset.induction_on with
  | empty => rfl
  | insert a s ha ih => rw [Finset.sum_insert ha, Finset.sum_insert ha, BitVec.ofNat_add, ih]

theorem acc_zero (R : ℕ → ℕ → BitVec 32) (b w : ℕ) : acc R b 0 w = 0 := rfl

/-- One step adds its sixteen lanes' units. -/
theorem acc_succ (R : ℕ → ℕ → BitVec 32) (b n w : ℕ) : acc R b (n + 1) w = acc R b n w + ∑ l : Fin 16,
    if slot l (R (b + l) ((l + n) % 64)).toNat = w then BitVec.ofNat 32 (unitOf (R (b + l) ((l + n) % 64)).toNat) else 0 :=
  Finset.sum_range_succ _ _

/-- The 64 steps read a row's 64 columns, each once, starting at the lane's own. -/
theorem sum_rotate {M : Type} [AddCommMonoid M] (l : ℕ) (hl : l < 64) (f : ℕ → M) :
    ∑ p ∈ Finset.range 64, f ((l + p) % 64) = ∑ q ∈ Finset.range 64, f q := by
  refine Finset.sum_nbij' (fun p => (l + p) % 64) (fun q => (q + 64 - l) % 64) ?_ ?_ ?_ ?_ ?_
  · intro p hp; simp only [Finset.mem_range] at hp ⊢; omega
  · intro p hp; simp only [Finset.mem_range] at hp ⊢; omega
  · intro p hp; simp only [Finset.mem_range] at hp; show ((l + p) % 64 + 64 - l) % 64 = p; omega
  · intro p hp; simp only [Finset.mem_range] at hp; show (l + (p + 64 - l) % 64) % 64 = p; omega
  · intro p _; rfl

/-- After all 64 steps the buffer holds the sixteen rows' part of the result. -/
theorem acc_full (R : ℕ → ℕ → BitVec 32) (hR : ∀ r q, (R r q).toNat < 832) (b w : ℕ) (hb : b % 16 = 0) (hw : w < 4096) :
    acc R b 64 w = outWord R (b * 256 + w) := by
  unfold acc outWord packN
  rw [Finset.sum_comm, ofNat_sum]
  have hl : w / 2048 * 8 + w % 1024 / 128 < 16 := by omega
  rw [Finset.sum_eq_single (⟨w / 2048 * 8 + w % 1024 / 128, hl⟩ : Fin 16)]
  · have hrow : (b * 256 + w) / 2048 * 8 + (b * 256 + w) % 1024 / 128 = b + (w / 2048 * 8 + w % 1024 / 128) := by omega
    rw [hrow, sum_rotate (w / 2048 * 8 + w % 1024 / 128) (by omega) fun q =>
      if slot (w / 2048 * 8 + w % 1024 / 128) (R (b + (w / 2048 * 8 + w % 1024 / 128)) q).toNat = w
        then BitVec.ofNat 32 (unitOf (R (b + (w / 2048 * 8 + w % 1024 / 128)) q).toNat) else 0]
    refine Finset.sum_congr rfl fun q _ => ?_
    have h := hR (b + (w / 2048 * 8 + w % 1024 / 128)) q
    unfold slot
    by_cases hc : (R (b + (w / 2048 * 8 + w % 1024 / 128)) q).toNat / 512 = (b * 256 + w) % 2048 / 1024
        ∧ (R (b + (w / 2048 * 8 + w % 1024 / 128)) q).toNat % 128 = (b * 256 + w) % 128
    · rw [if_pos hc, if_pos (by omega)]
    · rw [if_neg hc, if_neg (by omega)]; rfl
  · intro l _ hne
    refine Finset.sum_eq_zero fun p _ => if_neg fun h => hne (Fin.ext ?_)
    have h' := hR (b + l) ((l + p) % 64)
    have := l.isLt
    unfold slot at h
    show l.val = w / 2048 * 8 + w % 1024 / 128
    omega
  · intro h; exact absurd (Finset.mem_univ _) h

/-- A row's packed word, byte by byte. -/
theorem packN_eq (R : ℕ → ℕ → BitVec 32) (r j c : ℕ) (hc : c < 128) :
    packN R r j c = count R r (512 * j + c) + 256 * count R r (512 * j + 128 + c)
      + 65536 * count R r (512 * j + 256 + c) + 16777216 * count R r (512 * j + 384 + c) := by
  unfold packN count
  simp only [Finset.card_filter, Finset.mul_sum, ← Finset.sum_add_distrib]
  refine Finset.sum_congr rfl fun q _ => ?_
  generalize (R r q).toNat = v
  by_cases h : v / 512 = j ∧ v % 128 = c
  · rw [if_pos h]
    obtain ⟨h1, h2⟩ := h
    have h4 : v / 128 % 4 < 4 := by omega
    unfold unitOf
    obtain h3 | h3 | h3 | h3 : v / 128 % 4 = 0 ∨ v / 128 % 4 = 1 ∨ v / 128 % 4 = 2 ∨ v / 128 % 4 = 3 := by omega
    all_goals rw [h3]
    · rw [if_pos (by omega), if_neg (by omega), if_neg (by omega), if_neg (by omega)]; norm_num
    · rw [if_neg (by omega), if_pos (by omega), if_neg (by omega), if_neg (by omega)]; norm_num
    · rw [if_neg (by omega), if_neg (by omega), if_pos (by omega), if_neg (by omega)]; norm_num
    · rw [if_neg (by omega), if_neg (by omega), if_neg (by omega), if_pos (by omega)]; norm_num
  · rw [if_neg h, if_neg (by omega), if_neg (by omega), if_neg (by omega), if_neg (by omega)]; norm_num

theorem count_le (R : ℕ → ℕ → BitVec 32) (r v : ℕ) : count R r v ≤ 64 :=
  (Finset.card_filter_le _ _).trans_eq (Finset.card_range 64)

/-- Byte `k` of row `r`'s packed word is the number of times the value it stands for occurs. -/
theorem byte_packN (R : ℕ → ℕ → BitVec 32) (r j c k : ℕ) (hc : c < 128) (hk : k < 4) :
    packN R r j c / 2 ^ (8 * k) % 256 = count R r (512 * j + 128 * k + c) := by
  rw [packN_eq R r j c hc]
  have h0 := count_le R r (512 * j + c)
  have h1 := count_le R r (512 * j + 128 + c)
  have h2 := count_le R r (512 * j + 256 + c)
  have h3 := count_le R r (512 * j + 384 + c)
  interval_cases k
  · rw [show 512 * j + 128 * 0 + c = 512 * j + c by omega]; norm_num; omega
  · rw [show 512 * j + 128 * 1 + c = 512 * j + 128 + c by omega]; norm_num; omega
  · rw [show 512 * j + 128 * 2 + c = 512 * j + 256 + c by omega]; norm_num; omega
  · rw [show 512 * j + 128 * 3 + c = 512 * j + 384 + c by omega]; norm_num; omega

theorem packN_lt (R : ℕ → ℕ → BitVec 32) (r j c : ℕ) (hc : c < 128) : packN R r j c < 2 ^ 31 := by
  rw [packN_eq R r j c hc]
  have h0 := count_le R r (512 * j + c)
  have h1 := count_le R r (512 * j + 128 + c)
  have h2 := count_le R r (512 * j + 256 + c)
  have h3 := count_le R r (512 * j + 384 + c)
  omega

/-! ## The kernel's vectors, lane by lane -/

variable {F : FTy → Type} [FloatOps F]

/-- Lane `k` of a sixteen-lane vector. -/
def lane (k : Fin 16) : S16.Idx := Shape.ofLane (d := ![16]) k

/-- A fold whose every step adds one amount adds their sum. -/
theorem foldl_add {ι κ : Type} (st : (κ → BitVec 32) → ι → κ → BitVec 32) (t : ι → κ → BitVec 32)
    (hst : ∀ g i j, st g i j = g j + t i j) (L : List ι) (f : κ → BitVec 32) (j : κ) :
    L.foldl st f j = f j + (L.map fun i => t i j).sum := by
  induction L generalizing f with
  | nil => simp
  | cons i L ih => rw [List.foldl_cons, ih, hst, List.map_cons, List.sum_cons, add_assoc]

/-- An added scatter into the word buffer: every word gains the units of the lanes that name it. -/
theorem storeIdx_add (f : S4096.Idx → BitVec 32) (idx : IVec S16 32) (v : S16.Idx → BitVec 32)
    (h : ∀ a x, ((![idx] : Fin 1 → IVec S16 32) a x).toNat < S4096.size a) (j : S4096.Idx) :
    (storeIdx (F := F) (e := .i32) (s := S4096) f ![idx] v (fun _ => 1#1) true h j : BitVec 32)
      = f j + ∑ k : Fin 16, if (idx (lane k)).toNat = (j 0).val then v (lane k) else 0 := by
  have := foldl_add (κ := S4096.Idx) (fun (g : S4096.Idx → BitVec 32) (k : Fin 16) (j : S4096.Idx) =>
      if (∀ a, (j a).val = (idxAt (s := S4096) ![idx] h (lane k) a).val)
        then g (idxAt (s := S4096) ![idx] h (lane k)) + v (lane k) else g j)
    (fun k j => if (idx (lane k)).toNat = (j 0).val then v (lane k) else 0) (by
      intro g k j
      by_cases hj : (idx (lane k)).toNat = (j 0).val
      · have hj' : idxAt (s := S4096) ![idx] h (lane k) = j := by
          funext a; obtain rfl : a = 0 := Fin.eq_zero a; exact Fin.ext hj
        rw [if_pos (fun a => by rw [hj']), if_pos hj, hj']
      · rw [if_neg (fun ha => hj (ha 0).symm), if_neg hj, add_zero]) (List.finRange 16) f j
  rw [← List.ofFn_eq_map, List.sum_ofFn] at this
  refine Eq.trans ?_ this
  refine congrFun (congrArg (fun st => List.foldl st f (List.finRange 16)) (funext₂ fun g k => ?_)) j
  show (if (1#1 : BitVec 1) = 1 then _ else _) = _
  refine (if_pos (c := (1#1 : BitVec 1) = 1) rfl).trans (funext fun j => ?_)
  by_cases hj : ∀ a : Fin S4096.rank, (j a).val = (idxAt (s := S4096) ![idx] h (lane k) a).val
  · exact (if_pos hj).trans (if_pos hj).symm
  · exact (if_neg hj).trans (if_neg hj).symm

end Cert.Proof.Hist

end
-- ==== Proof.Lanes.lean ====
/-
  What the kernel's sixteen-lane vectors hold at each lane: the rows and columns a step reads, the words and units it adds.
  With them one step of the counting loop takes the buffer from `acc … p` to `acc … (p + 1)`.
-/
module

public import proofs.«01_k».proof.Proof.Hist

@[expose] public section

noncomputable section

namespace Cert.Proof.Hist

open Cert.KernelIdeal Cert.KernelIdeal.Gen Idealize.ShloMosaic
open scoped BigOperators

variable {F : FTy → Type} [FloatOps F]

/-- The kernel's lane numbers. -/
abbrev lanes : IVec S16 32 := iota .scVector S16 32 [0] iota_S16_d0_w32_scVector

theorem lanes_lane (k : Fin 16) : lanes (lane k) = BitVec.ofNat 32 k.val := by
  show BitVec.ofNat 32 (0 * 16 + k.val) = _
  rw [Nat.zero_mul, Nat.zero_add]

theorem lane_surj (x : S16.Idx) : ∃ k, lane k = x := ⟨x 0, by funext a; obtain rfl : a = 0 := Fin.eq_zero a; rfl⟩

theorem iv_toNat {n k : ℕ} (hk : k < n) (hn : n ≤ 2 ^ 20) : (Scf.iv (0#32) (1#32) k).toNat = k := by
  unfold Scf.iv
  simp only [BitVec.toNat_add, BitVec.toNat_mul, BitVec.toNat_ofNat]
  omega

/-! ### Shifts of small words -/

theorem shrsi_lit (x : BitVec 32) (n : ℕ) (hn : n < 32) (hx : x.toNat < 2 ^ 31) :
    (IntOp.shrsi .vector x (BitVec.ofNat 32 n)).toNat = x.toNat / 2 ^ n := by
  unfold IntOp.shrsi
  have h : (BitVec.ofNat 32 n).toNat = n := by simp only [BitVec.toNat_ofNat]; omega
  rw [if_pos (by rw [h]; exact hn)]
  show (x.sshiftRight (BitVec.ofNat 32 n).toNat).toNat = _
  rw [h, BitVec.sshiftRight_eq_of_msb_false (by rw [BitVec.msb_eq_decide]; simpa using hx), BitVec.toNat_ushiftRight, Nat.shiftRight_eq_div_pow]

theorem shli_lit (x : BitVec 32) (n : ℕ) (hn : n < 32) (hx : x.toNat * 2 ^ n < 2 ^ 32) :
    (IntOp.shli .vector x (BitVec.ofNat 32 n)).toNat = x.toNat * 2 ^ n := by
  unfold IntOp.shli
  have h : (BitVec.ofNat 32 n).toNat = n := by simp only [BitVec.toNat_ofNat]; omega
  rw [if_pos (by rw [h]; exact hn), BitVec.shiftLeft_eq', BitVec.toNat_shiftLeft, h, Nat.shiftLeft_eq, Nat.mod_eq_of_lt hx]

theorem andi_mask (x : BitVec 32) (n : ℕ) (hn : n < 32) : (IntOp.andi x (BitVec.ofNat 32 (2 ^ n - 1))).toNat = x.toNat % 2 ^ n := by
  unfold IntOp.andi
  have h : 2 ^ n ≤ 2 ^ 31 := Nat.pow_le_pow_right (by norm_num) (by omega)
  rw [BitVec.toNat_and, BitVec.toNat_ofNat, Nat.mod_eq_of_lt (by omega), Nat.and_two_pow_sub_one_eq_mod]

/-! ### The payloads -/

/-- The words the lanes start from: each lane its own sixteenth. -/
theorem pay1_lane (k : Fin 16) : (k1_pay1 (lane k)).toNat = k.val / 8 * 2048 + k.val % 8 * 128 := by
  show (IntOp.addi (IntOp.muli (IntOp.shrsi .vector (lanes (lane k)) 3#32) 2048#32)
    (IntOp.muli (IntOp.andi (lanes (lane k)) 7#32) 128#32)).toNat = _
  rw [lanes_lane]
  have hk := k.isLt
  have e : (BitVec.ofNat 32 k.val).toNat = k.val := by simp only [BitVec.toNat_ofNat]; omega
  have h1 := shrsi_lit (BitVec.ofNat 32 k.val) 3 (by norm_num) (by omega)
  have h2 := andi_mask (BitVec.ofNat 32 k.val) 3 (by norm_num)
  unfold IntOp.addi IntOp.muli
  rw [BitVec.toNat_add, BitVec.toNat_mul, BitVec.toNat_mul, h1, show (7#32) = BitVec.ofNat 32 (2 ^ 3 - 1) from rfl, h2, e]
  simp only [BitVec.toNat_ofNat]
  omega

/-- The rows of the tile's block the first buffer's steps read. -/
theorem pay4_lane (t : Fin k1_t1_loop.trips) (ht : t.val < 8) (k : Fin 16) :
    (k1_pay4 lanes 0#32 1#32 t (lane k)).toNat = 32 * t.val + k.val := by
  show (IntOp.addi (IntOp.muli (IntOp.addi (IntOp.muli (Scf.iv 0#32 1#32 t.val) 2#32) 0#32) 16#32) (lanes (lane k))).toNat = _
  rw [lanes_lane]
  unfold IntOp.addi IntOp.muli
  simp only [BitVec.toNat_add, BitVec.toNat_mul, BitVec.toNat_ofNat, iv_toNat ht (by norm_num)]
  omega

/-- And the second's. -/
theorem pay8_lane (t : Fin k1_t1_loop.trips) (ht : t.val < 8) (k : Fin 16) :
    (k1_pay8 lanes 0#32 1#32 t (lane k)).toNat = 32 * t.val + 16 + k.val := by
  show (IntOp.addi (IntOp.muli (IntOp.addi (IntOp.muli (Scf.iv 0#32 1#32 t.val) 2#32) 1#32) 16#32) (lanes (lane k))).toNat = _
  rw [lanes_lane]
  unfold IntOp.addi IntOp.muli
  simp only [BitVec.toNat_add, BitVec.toNat_mul, BitVec.toNat_ofNat, iv_toNat ht (by norm_num)]
  omega

/-- The columns: each lane its own number on. -/
theorem pay5_lane (p : Fin k1_t3_loop.trips) (hp : p.val < 64) (k : Fin 16) :
    (k1_pay5 lanes p (lane k)).toNat = (k.val + p.val) % 64 := by
  show (IntOp.andi (IntOp.addi (lanes (lane k)) (IntOp.addi 0#32 (IntOp.muli (Scf.iv 0#32 1#32 p.val) 1#32))) 63#32).toNat = _
  have h2 := andi_mask (IntOp.addi (lanes (lane k)) (IntOp.addi 0#32 (IntOp.muli (Scf.iv 0#32 1#32 p.val) 1#32))) 6 (by norm_num)
  rw [show (63#32) = BitVec.ofNat 32 (2 ^ 6 - 1) from rfl, h2, lanes_lane]
  unfold IntOp.addi IntOp.muli
  simp only [BitVec.toNat_add, BitVec.toNat_mul, BitVec.toNat_ofNat, iv_toNat hp (by norm_num)]
  omega

/-- The word each lane adds to. -/
theorem pay6_lane (v : S16.Idx → BitVec 32) (k : Fin 16) (hv : (v (lane k)).toNat < 832) :
    (k1_pay6 (F := F) k1_pay1 v (lane k)).toNat = slot k.val (v (lane k)).toNat := by
  show (IntOp.addi (IntOp.addi (k1_pay1 (lane k)) (IntOp.shli .vector (IntOp.shrsi .vector (v (lane k)) 9#32) 10#32))
    (IntOp.andi (v (lane k)) 127#32)).toNat = _
  have h1 := shrsi_lit (v (lane k)) 9 (by norm_num) (by omega)
  have h2 := shli_lit (IntOp.shrsi .vector (v (lane k)) 9#32) 10 (by norm_num) (by rw [h1]; omega)
  have h3 := andi_mask (v (lane k)) 7 (by norm_num)
  have h4 := pay1_lane k
  have hk := k.isLt
  rw [show (127#32) = BitVec.ofNat 32 (2 ^ 7 - 1) from rfl]
  unfold IntOp.addi slot
  rw [BitVec.toNat_add, BitVec.toNat_add, h2, h1, h3, h4]
  omega

/-- And the unit it adds. -/
theorem pay7_lane (v : S16.Idx → BitVec 32) (k : Fin 16) (hv : (v (lane k)).toNat < 832) :
    k1_pay7 (F := F) k1_pay2 v (lane k) = BitVec.ofNat 32 (unitOf (v (lane k)).toNat) := by
  show IntOp.shli .vector 1#32 (IntOp.shli .vector (IntOp.andi (IntOp.shrsi .vector (v (lane k)) 7#32) 3#32) 3#32) = _
  have h1 := shrsi_lit (v (lane k)) 7 (by norm_num) (by omega)
  have h2 := andi_mask (IntOp.shrsi .vector (v (lane k)) 7#32) 2 (by norm_num)
  rw [h1] at h2
  have h3 := shli_lit (IntOp.andi (IntOp.shrsi .vector (v (lane k)) 7#32) 3#32) 3 (by norm_num)
    (by rw [show (3#32) = BitVec.ofNat 32 (2 ^ 2 - 1) from rfl, h2]; omega)
  rw [show (IntOp.andi (IntOp.shrsi .vector (v (lane k)) 7#32) 3#32).toNat = _ from h2] at h3
  have h5 : (v (lane k)).toNat / 128 % 4 < 4 := by omega
  have h6 : IntOp.shli .vector (IntOp.andi (IntOp.shrsi .vector (v (lane k)) 7#32) 3#32) 3#32
      = BitVec.ofNat 32 (8 * ((v (lane k)).toNat / 128 % 4)) := by
    apply BitVec.eq_of_toNat_eq
    rw [show (3#32 : BitVec 32) = BitVec.ofNat 32 3 from rfl] at h3 ⊢
    rw [h3, BitVec.toNat_ofNat]
    norm_num
    omega
  rw [h6]
  unfold unitOf
  have h7 : 2 ^ (8 * ((v (lane k)).toNat / 128 % 4)) ≤ 2 ^ 24 := Nat.pow_le_pow_right (by norm_num) (by omega)
  apply BitVec.eq_of_toNat_eq
  rw [shli_lit 1#32 _ (by omega) (by rw [show (1#32).toNat = 1 from rfl]; omega), show (1#32).toNat = 1 from rfl, Nat.one_mul,
    BitVec.toNat_ofNat]
  exact (Nat.mod_eq_of_lt (lt_of_le_of_lt h7 (by norm_num))).symm

/-! ### One counting step -/

/-- Tile-local rows `g …` of the block `Y`, which is the rows of `R` from `base` on: what the lanes load. -/
theorem load_lane (R : ℕ → ℕ → BitVec 32) (base g p : ℕ) (Y : S256x64.Idx → BitVec 32)
    (hY : ∀ i, Y i = R (base + (i 0).val) (i 1).val) (u c : IVec S16 32)
    (hu : ∀ k : Fin 16, (u (lane k)).toNat = g + k.val) (hc : ∀ k : Fin 16, (c (lane k)).toNat = (k.val + p) % 64)
    (h : ∀ a x, ((![u, c] : Fin 2 → IVec S16 32) a x).toNat < S256x64.size a) (k : Fin 16) :
    (loadIdx (F := F) (e := .i32) (s := S256x64) Y ![u, c] h (lane k) : BitVec 32) = R (base + g + k.val) ((k.val + p) % 64) := by
  show Y (idxAt (s := S256x64) ![u, c] h (lane k)) = _
  rw [hY]
  show R (base + (u (lane k)).toNat) (c (lane k)).toNat = _
  rw [hu, hc, Nat.add_assoc]

/-- The indices a step loads at are inside the block. -/
theorem inb_load {g p : ℕ} (hg : g + 16 ≤ 256) {u c : IVec S16 32} (hu : ∀ k : Fin 16, (u (lane k)).toNat = g + k.val)
    (hc : ∀ k : Fin 16, (c (lane k)).toNat = (k.val + p) % 64) :
    ∀ a x, ((![u, c] : Fin 2 → IVec S16 32) a x).toNat < S256x64.size a := by
  intro a x
  obtain ⟨k, rfl⟩ := lane_surj x
  have hk := k.isLt
  fin_cases a
  · show (u (lane k)).toNat < 256; rw [hu]; omega
  · show (c (lane k)).toNat < 64; rw [hc]; omega

/-- The words a step adds to are inside the buffer. -/
theorem inb_store (v : S16.Idx → BitVec 32) (hv : ∀ k, (v (lane k)).toNat < 832) :
    ∀ a x, ((![k1_pay6 (F := F) k1_pay1 v] : Fin 1 → IVec S16 32) a x).toNat < S4096.size a := by
  intro a x
  obtain ⟨k, rfl⟩ := lane_surj x
  obtain rfl : a = 0 := Fin.eq_zero a
  show (k1_pay6 (F := F) k1_pay1 v (lane k)).toNat < 4096
  rw [pay6_lane v k (hv k)]
  have hk := k.isLt
  have := hv k
  unfold slot
  omega

/-- One step of the counting loop, on the buffer's words. -/
theorem step_acc (R : ℕ → ℕ → BitVec 32) (hR : ∀ r q, (R r q).toNat < 832) (b p : ℕ) (v : S16.Idx → BitVec 32)
    (hv : ∀ k : Fin 16, v (lane k) = R (b + k.val) ((k.val + p) % 64))
    (h : ∀ a x, ((![k1_pay6 (F := F) k1_pay1 v] : Fin 1 → IVec S16 32) a x).toNat < S4096.size a) :
    storeIdx (F := F) (e := .i32) (s := S4096) (fun w => acc R b p (w 0).val) ![k1_pay6 (F := F) k1_pay1 v] (k1_pay7 (F := F) k1_pay2 v)
      (fun _ => 1#1) true h = fun w => acc R b (p + 1) (w 0).val := by
  funext j
  refine (storeIdx_add (fun w => acc R b p (w 0).val) _ _ h j).trans ?_
  rw [acc_succ]
  refine congrArg (acc R b p (j 0).val + ·) ?_
  refine Finset.sum_congr rfl fun k _ => ?_
  have hk : (v (lane k)).toNat < 832 := by rw [hv]; exact hR _ _
  rw [pay6_lane v k hk, pay7_lane v k hk, hv]

end Cert.Proof.Hist

end
-- ==== Proof.Common.lean ====
/-
  The program as its launch sees it, and the ghost state its proof is written over.
-/
module

public import proofs.«01_k».proof.Defs
public import proofs.«01_k».proof.Proof.Hist
public import proofs.«01_k».proof.Proof.Lanes
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.Memref
public import Idealize.ShloMosaic.Lib.Writes
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof

open Cert.KernelIdeal Cert.KernelIdeal.Gen
open Idealize.ShloMosaic Idealize.SL Idealize.SL.RA Idealize.SL.Sem
open Idealize.ShloMosaic.SparseCore.Cfg (HIx)
open Idealize.ShloMosaic.Rounds

variable {F : FTy → Type}

abbrev ΛP [FloatOps F] : Labels := Pipeline.Sig Λ₀ (Fin 3) fun p => (pcfgs (F := F) p).Adm
abbrev K [FloatOps F] : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are the launch's alone. -/
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds, the pipelines' rounds, and the transfers' counters. -/
abbrev UH : Type := URounds (GSem nD τ sig) ℕ
abbrev UP : Type := UR sig nD τ
abbrev UU : Type := UH × (UP × Counters)
abbrev 𝕄 (F : FTy → Type) : Type := MT nD τ sig (HIx 2) (Elt F) ℕ UU ℕ

abbrev EH : Emb UH (𝕄 F) := embL
abbrev EP : Emb UP (𝕄 F) := (Emb.inl : Emb UP (UP × Counters)).trans embR

end Cert.Proof

end
-- ==== Proof.Tile.lean ====
/-
  One tile's body, for any memrefs it may be called with: sixteen groups of sixteen rows, the counts of a group
  gathered in a buffer and sent to the group's words of the output.
-/
module

public import proofs.«01_k».proof.Proof.Common

@[expose] public section

noncomputable section

namespace Cert.Proof

open Cert.KernelIdeal Cert.KernelIdeal.Gen Cert.Proof.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "ℳ" => MT nD τ sig (HIx 2) (Elt F) ℕ UU ℕ

theorem t1_trips : k1_t1_loop.trips = 8 := by decide
theorem t2_trips : k1_t2_loop.trips = 256 := by decide
theorem t3_trips : k1_t3_loop.trips = 64 := by decide

section Indexed

variable {c : Thread nD τ} {s t : Shape} {e : EltTy}

/-- The whole rectangle of a memref is the memref: its elements, what it reads, what it comes to read when written. -/
theorem set_whole_rect {sp : Space} (B : Memref sig c.2.kind sp s e) : (B.access (.whole s)).set = B.view.set := by
  rw [View.set_slice, Rect.set_whole]; rfl

theorem read_whole_rect {sp : Space} (B : Memref sig c.2.kind sp s e) (f : B.view.ty.Contents (Elt F)) :
    (B.access (.whole s)).read (Elt F) f = B.view.read (Elt F) f := by
  funext x
  show _root_.cast _ (f (B.view.emb ((Rect.whole s).emb x))) = _root_.cast _ (f (B.view.emb x))
  rw [Rect.emb_whole_apply]

theorem read_write_whole_rect {sp : Space} (B : Memref sig c.2.kind sp s e) (f : B.view.ty.Contents (Elt F)) (w : s.Idx → Elt F e) :
    B.view.read (Elt F) ((B.access (.whole s)).write (Elt F) f w Finset.univ) = w := by
  funext x
  exact View.read_writes_cons_hit B.view f (Rect.whole s) w [] x x (Rect.emb_whole_apply _ _)

/-- An indexed load, by what the memref is owned at. -/
theorem owns_loadIdx {Q : PUnit → sProp ℳ} {B : Memref sig c.2.kind .vmem s e} {idxs : Fin s.rank → IVec t 32} {h : ∀ a x, (idxs a x).toNat < s.size a}
    {hl : B.view.Loads} {k : Vec F t e → Prog (TpuEff nD τ sig (Elt F) Λ₀ c.2) PUnit} {q : PosShare TreeShare} {Y : s.Idx → Elt F e} :
    owns c B q Y ⊢ iprop((owns c B q Y -∗ wp frame (wpE (defs₀ (F := F)) 𝒱₀ c none) Set.univ (k (loadIdx Y idxs h)) Q)
      -∗ wp frame (wpE (defs₀ (F := F)) 𝒱₀ c none) Set.univ (SparseCore.vectorLoadIdx B idxs h hl >>= k) Q) := by
  unfold owns
  iintro ⟨%f, %hf, H⟩ Hk
  iapply (SparseCore.wp_vectorLoadIdx 𝒱₀ c none Set.univ (base := B) (S := B.view.set) (q := q) (f := f) (set_whole_rect B).le) $$ H
  iintro H
  rw [read_whole_rect, hf]
  iapply Hk
  iexists f
  isplitr
  · ipureintro; exact hf
  · iexact H

/-- And an indexed store. -/
theorem owns_storeIdx {Q : PUnit → sProp ℳ} {n : Fin 1 → ℕ} {B : Memref sig c.2.kind .vmem s e} {idxs : Fin s.rank → IVec ⟨1, n⟩ 32} {v : Vec F ⟨1, n⟩ e}
    {mask : IVec ⟨1, n⟩ 1} {add : Bool} {h : ∀ a x, (idxs a x).toNat < s.size a} {hs : (B.access (.whole s)).Stores Finset.univ}
    {k : PUnit → Prog (TpuEff nD τ sig (Elt F) Λ₀ c.2) PUnit} {Y : s.Idx → Elt F e} :
    owns c B fullShare Y ⊢ iprop((owns c B fullShare (storeIdx Y idxs v mask add h) -∗ wp frame (wpE (defs₀ (F := F)) 𝒱₀ c none) Set.univ (k ⟨⟩) Q)
      -∗ wp frame (wpE (defs₀ (F := F)) 𝒱₀ c none) Set.univ (SparseCore.vectorStoreIdx B idxs v mask add h hs >>= k) Q) := by
  unfold owns
  iintro ⟨%f, %hf, H⟩ Hk
  rw [← set_whole_rect B]
  iapply (SparseCore.wp_vectorStoreIdx 𝒱₀ c none Set.univ (base := B) (f := f)) $$ H
  iintro H
  rw [read_whole_rect, hf]
  iapply Hk
  iexists _
  isplitr
  · ipureintro; exact read_write_whole_rect B f _
  · iexact H

end Indexed

section Body

variable (d : Dev nD) (i : grid1.Coords)

/-- The tile at grid point `i`. -/
abbrev tl : Thread nD τ := V d ((i 0).castLE hcore1) ((i 1).castLE hsub1)

variable (arg2 : Memref sig .scVector .hbm S8192x64 .i32) (harg2 : arg2.IsWhole)
  (arg3 : Memref sig .scVector .hbm S2097152 .i32) (harg3 : arg3.IsWhole)
  (arg4 : Memref sig .scVector .vmem S256x64 .i32) (harg4 : arg4.IsWhole)
  (arg5 : Memref sig .scVector .vmem S4096 .i32) (harg5 : arg5.IsWhole)
  (arg6 : Memref sig .scVector .vmem S4096 .i32) (harg6 : arg6.IsWhole)
  (arg7 arg8 v20_r0 : DmaSems sig S_) (v2 : BitVec 32) (v3 v12 v13 : IVec S16 32)
  (c0 c1 : BitVec 32) (k1_t1 : Fin k1_t1_loop.trips)

/-- The buffer's first `16 k` words are zero. -/
def zeroed (B : Memref sig .scVector .vmem S4096 .i32) (k : ℕ) : sProp ℳ :=
  iprop(∃ f, ⌜∀ j : S4096.Idx, (j 0).val < 16 * k → B.view.read (Elt F) f j = 0#32⌝ ∗ B.view.loc (tl d i) ↦[B.view.set]{fullShare} f)

/-- Storing zeros at the words from `16 k` on takes `zeroed k` to `zeroed (k + 1)`. -/
theorem zeroed_step (B : Memref sig .scVector .vmem S4096 .i32) (k : ℕ) (off : Fin 1 → ℕ) (hoff : off = ![16 * k])
    (hin : ∀ a, off a + S16.size a ≤ S4096.size a) (f : B.view.ty.Contents (Elt F))
    (hf : ∀ j : S4096.Idx, (j 0).val < 16 * k → B.view.read (Elt F) f j = 0#32) (j : S4096.Idx) (hj : (j 0).val < 16 * (k + 1)) :
    B.view.read (Elt F) (B.view.writes (Elt F) f [⟨Rect.unit (s := S4096) off S16.size hin, (k1_pay3 : IVec S16 32)⟩]) j = 0#32 := by
  subst hoff
  by_cases h : (j 0).val < 16 * k
  · rw [View.read_writes_cons_miss_of_axis _ _ _ _ _ 0 (16 * k) 16 rfl rfl rfl (Or.inl h)]
    exact hf j h
  · exact View.read_writes_cons_hit_of_coords (Val := Elt F) B.view f (Rect.unit (s := S4096) ![16 * k] S16.size hin) (k1_pay3 : IVec S16 32) []
      (lane ⟨(j 0).val - 16 * k, by omega⟩) j
      (fun a => by obtain rfl : a = 0 := Fin.eq_zero a; show (j 0).val = 16 * k + 1 * ((j 0).val - 16 * k); omega)

theorem zero_first : zeroed d i arg5 0 ⊢ wp frame (wpE (defs₀ (F := F)) 𝒱₀ (tl d i) none) Set.univ
      (Scf.Loop.for k1_t2_loop k1_t2_ok ⟨⟩ (k1_t2_body i arg2 harg2 arg3 harg3 arg4 harg4 arg5 harg5 arg6 harg6 arg7 arg8 v20_r0 v2 v3 v12 v13 k1_pay3 c0 c1 k1_t1))
      fun _ => zeroed (F := F) d i arg5 256 := by
  refine BIBase.Entails.trans ?_ (Scf.wp_for frame (wpE (defs₀ (F := F)) 𝒱₀ (tl d i) none) Set.univ _ _ _ k1_t2_ok PUnit.unit _ (fun k _ => zeroed (F := F) d i arg5 k) ?_)
  · iintro H
    isplitl [H]; · iexact H
    iintro %_ H
    rw [← t2_trips]; iexact H
  · intro k _
    unfold zeroed k1_t2_body
    iintro ⟨%f, %hf, Hf⟩
    sl_exec
    sl_step
    iexists _
    isplitr
    · ipureintro; exact zeroed_step arg5 k _ (k1_off2_eq k) (k1_off2_inb k) f hf
    · iexact Hf

theorem zero_second : zeroed d i arg6 0 ⊢ wp frame (wpE (defs₀ (F := F)) 𝒱₀ (tl d i) none) Set.univ
      (Scf.Loop.for k1_t4_loop k1_t4_ok ⟨⟩ (k1_t4_body i arg2 harg2 arg3 harg3 arg4 harg4 arg5 harg5 arg6 harg6 arg7 arg8 v20_r0 v2 v3 v12 v13 k1_pay3 c0 c1 k1_t1))
      fun _ => zeroed (F := F) d i arg6 256 :=
  zero_first d i arg2 harg2 arg3 harg3 arg4 harg4 arg6 harg6 arg5 harg5 arg7 arg8 v20_r0 v2 v3 v12 v13 c0 c1 k1_t1

/-- What a counting loop holds after `p` steps of the group whose rows begin at `b`: the tile's rows, and the counts so far. -/
def counted (R : ℕ → ℕ → BitVec 32) (Y : S256x64.Idx → BitVec 32) (B : Memref sig .scVector .vmem S4096 .i32) (b p : ℕ) : sProp ℳ :=
  iprop(owns (tl d i) arg4 fullShare Y ∗ owns (tl d i) B fullShare (fun w => acc R b p (w 0).val))

/-- One step of a counting loop: the lanes load at rows `u` and columns `c` of the tile's rows and add their units to `B`. -/
def step (B : Memref sig .scVector .vmem S4096 .i32) (u c : IVec S16 32) :
    Prog (TpuEff nD τ sig (Elt F) Λ₀ (.scVector ((i 0).castLE hcore1) ((i 1).castLE hsub1))) Unit := do
  let h ← Prog.lift (TpuEff.assume (k1_chk1 u c) (k1_chk1.dec u c))
  let v : Vec F S16 .i32 ← SparseCore.vectorLoadIdx arg4 ![u, c] (k1_idx1_inb u c h.down) (View.loads_vmem h_S256x64)
  let h' ← Prog.lift (TpuEff.assume (k1_chk2 (k1_pay6 (F := F) k1_pay1 v)) (k1_chk2.dec _))
  SparseCore.vectorStoreIdx B ![k1_pay6 (F := F) k1_pay1 v] (k1_pay7 (F := F) k1_pay2 v) (fun _ => 1#1) true (k1_idx2_inb _ h'.down)
    (View.stores_vmem_bits_univ h_S4096 rfl)
  pure ⟨⟩

theorem count_step (R : ℕ → ℕ → BitVec 32) (hR : ∀ r q, (R r q).toNat < 832) (base : ℕ) (Y : S256x64.Idx → BitVec 32)
    (hY : ∀ i, Y i = R (base + (i 0).val) (i 1).val) (B : Memref sig .scVector .vmem S4096 .i32) (g p : ℕ) (hg : g + 16 ≤ 256)
    (u c : IVec S16 32) (hu : ∀ k : Fin 16, (u (lane k)).toNat = g + k.val) (hc : ∀ k : Fin 16, (c (lane k)).toNat = (k.val + p) % 64) :
    counted (F := F) d i arg4 R Y B (base + g) p ⊢ wp frame (wpE (defs₀ (F := F)) 𝒱₀ (tl d i) none) Set.univ
      (step i arg4 B u c) fun _ => counted (F := F) d i arg4 R Y B (base + g) (p + 1) := by
  unfold counted step
  iintro ⟨H4, H5⟩
  have hv : ∀ k : Fin 16, (loadIdx (F := F) (e := .i32) (s := S256x64) Y ![u, c] (inb_load hg hu hc) (lane k) : BitVec 32)
      = R (base + g + k.val) ((k.val + p) % 64) := load_lane R base g p Y hY _ _ hu hc _
  have hv' : ∀ k : Fin 16, (loadIdx (F := F) (e := .i32) (s := S256x64) Y ![u, c] (inb_load hg hu hc) (lane k) : BitVec 32).toNat < 832 :=
    fun k => by rw [hv k]; exact hR _ _
  rw [show ∀ (A : Type) (P : Prop) (dP : Decidable P) (k : _ → Prog (TpuEff nD τ sig (Elt F) Λ₀ (tl d i).2) A),
    (Prog.lift (TpuEff.assume P dP) >>= k) = Prog.op (TpuEff.assume P dP) k from fun _ _ _ _ => rfl]
  rw [wp_assume_of _ _ _ _ (show k1_chk1 u c from inb_load hg hu hc)]
  iapply (owns_loadIdx (c := tl d i)) $$ H4
  iintro H4
  rw [show ∀ (A : Type) (P : Prop) (dP : Decidable P) (k : _ → Prog (TpuEff nD τ sig (Elt F) Λ₀ (tl d i).2) A),
    (Prog.lift (TpuEff.assume P dP) >>= k) = Prog.op (TpuEff.assume P dP) k from fun _ _ _ _ => rfl]
  rw [wp_assume_of _ _ _ _ (show k1_chk2 (k1_pay6 (F := F) k1_pay1 (loadIdx (F := F) (e := .i32) (s := S256x64) Y
    ![u, c] (inb_load hg hu hc))) from inb_store _ hv')]
  iapply (owns_storeIdx (c := tl d i)) $$ H5
  iintro H5
  sl_step
  isplitl [H4]; · iexact H4
  rw [step_acc R hR (base + g) p _ hv]
  iexact H5

/-- The first buffer's counting loop takes the counts from none to all. -/
theorem count_first (R : ℕ → ℕ → BitVec 32) (hR : ∀ r q, (R r q).toNat < 832) (base : ℕ) (Y : S256x64.Idx → BitVec 32)
    (hY : ∀ i, Y i = R (base + (i 0).val) (i 1).val) :
    counted (F := F) d i arg4 R Y arg5 (base + 32 * k1_t1.val) 0 ⊢ wp frame (wpE (defs₀ (F := F)) 𝒱₀ (tl d i) none) Set.univ
      (Scf.Loop.for k1_t3_loop k1_t3_ok ⟨⟩ (k1_t3_body i arg2 harg2 arg3 harg3 arg4 harg4 arg5 harg5 arg6 harg6 arg7 arg8 v20_r0 v2 lanes k1_pay1 k1_pay2 k1_pay3 0#32 1#32 k1_t1))
      fun _ => counted (F := F) d i arg4 R Y arg5 (base + 32 * k1_t1.val) 64 := by
  have ht : k1_t1.val < 8 := t1_trips ▸ k1_t1.isLt
  refine BIBase.Entails.trans ?_ (Scf.wp_for frame (wpE (defs₀ (F := F)) 𝒱₀ (tl d i) none) Set.univ _ _ _ k1_t3_ok PUnit.unit _
    (fun k _ => counted (F := F) d i arg4 R Y arg5 (base + 32 * k1_t1.val) k) fun p _ =>
      count_step d i arg4 R hR base Y hY arg5 (32 * k1_t1.val) p.val (by omega) _ _ (pay4_lane k1_t1 ht) (pay5_lane p (t3_trips ▸ p.isLt)))
  iintro H
  isplitl [H]; · iexact H
  iintro %_ H
  rw [← t3_trips]; iexact H

/-- And the second's. -/
theorem count_second (R : ℕ → ℕ → BitVec 32) (hR : ∀ r q, (R r q).toNat < 832) (base : ℕ) (Y : S256x64.Idx → BitVec 32)
    (hY : ∀ i, Y i = R (base + (i 0).val) (i 1).val) :
    counted (F := F) d i arg4 R Y arg6 (base + (32 * k1_t1.val + 16)) 0 ⊢ wp frame (wpE (defs₀ (F := F)) 𝒱₀ (tl d i) none) Set.univ
      (Scf.Loop.for k1_t5_loop k1_t5_ok ⟨⟩ (k1_t5_body i arg2 harg2 arg3 harg3 arg4 harg4 arg5 harg5 arg6 harg6 arg7 arg8 v20_r0 v2 lanes k1_pay1 k1_pay2 k1_pay3 0#32 1#32 k1_t1))
      fun _ => counted (F := F) d i arg4 R Y arg6 (base + (32 * k1_t1.val + 16)) 64 := by
  have ht : k1_t1.val < 8 := t1_trips ▸ k1_t1.isLt
  refine BIBase.Entails.trans ?_ (Scf.wp_for frame (wpE (defs₀ (F := F)) 𝒱₀ (tl d i) none) Set.univ _ _ _ k1_t5_ok PUnit.unit _
    (fun k _ => counted (F := F) d i arg4 R Y arg6 (base + (32 * k1_t1.val + 16)) k) fun p _ =>
      count_step d i arg4 R hR base Y hY arg6 (32 * k1_t1.val + 16) p.val (by omega) _ _ (pay8_lane k1_t1 ht) (pay5_lane (show Fin k1_t3_loop.trips from p) (t3_trips ▸ p.isLt)))
  iintro H
  isplitl [H]; · iexact H
  iintro %_ H
  rw [← t3_trips]; iexact H

end Body

end Cert.Proof

end
-- ==== Proof.Trip.lean ====
/-
  One tile's body, for any memrefs it may be called with: sixteen groups of sixteen rows, the counts of a group
  gathered in one of two buffers and sent to the group's words of the output while the other buffer fills.
-/
module

public import proofs.«01_k».proof.Proof.Tile

@[expose] public section

noncomputable section

namespace Cert.Proof

open Cert.KernelIdeal Cert.KernelIdeal.Gen Cert.Proof.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers

variable {F : FTy → Type} [FloatOps F]

local notation "ℳ" => MT nD τ sig (HIx 2) (Elt F) ℕ UU ℕ

/-- Of a list of things indexed from `0`, those from `k` on are the `k`-th and those after it. -/
theorem todo_peel {n : ℕ} (Φ : Fin n → sProp ℳ) (k : Fin n) :
    bigSep (Finset.univ.filter fun u => k.val ≤ u.val) Φ = iprop(Φ k ∗ bigSep (Finset.univ.filter fun u => k.val + 1 ≤ u.val) Φ) := by
  rw [show (Finset.univ.filter fun u : Fin n => k.val ≤ u.val) = insert k (Finset.univ.filter fun u => k.val + 1 ≤ u.val) from by
    ext u; simp only [Finset.mem_filter, Finset.mem_univ, true_and, Finset.mem_insert, Fin.ext_iff]; omega]
  exact SparseCore.bigSep_insert' (by simp)

/-- And those before `k + 1` are the `k`-th and those before it. -/
theorem past_push {n : ℕ} (Φ : Fin n → sProp ℳ) (k : Fin n) :
    bigSep (Finset.univ.filter fun u => u.val < k.val + 1) Φ = iprop(Φ k ∗ bigSep (Finset.univ.filter fun u => u.val < k.val) Φ) := by
  rw [show (Finset.univ.filter fun u : Fin n => u.val < k.val + 1) = insert k (Finset.univ.filter fun u => u.val < k.val) from by
    ext u; simp only [Finset.mem_filter, Finset.mem_univ, true_and, Finset.mem_insert, Fin.ext_iff]; omega]
  exact SparseCore.bigSep_insert' (by simp)

/-- Two things together. -/
theorem two (Φ : Fin 2 → sProp ℳ) :
    (bigSep Finset.univ Φ ⊢ iprop(Φ 0 ∗ Φ 1)) ∧ (iprop(Φ 0 ∗ Φ 1) ⊢ bigSep Finset.univ Φ) := by
  have h : bigSep Finset.univ Φ = iprop(Φ 0 ∗ Φ 1) := by
    rw [show (Finset.univ : Finset (Fin 2)) = {0, 1} from rfl, SparseCore.bigSep_insert' (by decide), bigSep_singleton]
  rw [h]; exact ⟨.rfl, .rfl⟩

section Body

variable (d : Dev nD) (i : grid1.Coords)
variable (arg2 : Memref sig .scVector .hbm S8192x64 .i32) (harg2 : arg2.IsWhole)
  (arg3 : Memref sig .scVector .hbm S2097152 .i32) (harg3 : arg3.IsWhole)
  (arg4 : Memref sig .scVector .vmem S256x64 .i32) (harg4 : arg4.IsWhole)
  (arg5 : Memref sig .scVector .vmem S4096 .i32) (harg5 : arg5.IsWhole)
  (arg6 : Memref sig .scVector .vmem S4096 .i32) (harg6 : arg6.IsWhole)
  (arg7 arg8 v20_r0 : DmaSems sig S_) (v2 : BitVec 32)

/-- The words of the output that the tile's group `2 u + r` fills. -/
abbrev win (r : Fin 2) (u : Fin k1_t1_loop.trips) : Memref sig .scVector .hbm S4096 .i32 :=
  arg3.slice (Rect.unit (s := S2097152) (k1_off3 i u (BitVec.ofNat 32 r.val)) S4096.size (k1_off3_inb i u r)) (fun _ => rfl)

/-- The words a wait names: a transfer of their size. -/
abbrev win0 : Memref sig .scVector .hbm S4096 .i32 :=
  arg3.slice (Rect.unit (s := S2097152) ![0] S4096.size inb_S2097152_S4096_0) (fun _ => rfl)

/-- A memref's words, whatever they hold. -/
def spare {sp : Space} {s : Shape} (B : Memref sig .scVector sp s .i32) : sProp ℳ :=
  iprop(∃ f, B.view.loc (tl d i) ↦[B.view.set]{fullShare} f)

/-- A group's words of the output at its counts. -/
def filled (R : ℕ → ℕ → BitVec 32) (base : ℕ) (r : Fin 2) (u : Fin k1_t1_loop.trips) : sProp ℳ :=
  owns (tl d i) (win i arg3 r u) fullShare (fun w => outWord R ((base + (32 * u.val + 16 * r.val)) * 256 + (w 0).val))

/-- Before trip `k`, the groups `2 u + r` already sent and those to come. -/
def sent (R : ℕ → ℕ → BitVec 32) (base : ℕ) (r : Fin 2) (j k : ℕ) : sProp ℳ :=
  iprop(bigSep (Finset.univ.filter fun u : Fin k1_t1_loop.trips => u.val < j) (filled (F := F) d i arg3 R base r)
    ∗ bigSep (Finset.univ.filter fun u : Fin k1_t1_loop.trips => k ≤ u.val) (fun u => spare (F := F) d i (win i arg3 r u)))

/-- A buffer at rest before trip `k`: its words in hand and its semaphore at zero. -/
def resting (R : ℕ → ℕ → BitVec 32) (base : ℕ) (r : Fin 2) (B : Memref sig .scVector .vmem S4096 .i32) (sm : DmaSem sig) (k : ℕ) : sProp ℳ :=
  iprop(sent (F := F) d i arg3 R base r k k ∗ spare (F := F) d i B ∗ semVal (tl d i, .dma sm) 0)

/-- A buffer's transfer of group `2 u + r` in flight. -/
def flight (R : ℕ → ℕ → BitVec 32) (base : ℕ) (r : Fin 2) (B : Memref sig .scVector .vmem S4096 .i32) (sm : DmaSem sig)
    (u : Fin k1_t1_loop.trips) : sProp ℳ :=
  Flight (countersEmb : UEmb Counters ℳ) (tl d i) (.dma sm) none (win0 arg3).view.dmaCredit
    iprop(filled (F := F) d i arg3 R base r u ∗ spare (F := F) d i B)

/-- A buffer as trip `k` finds it: at rest before the first trip, in flight with the group before otherwise. -/
def pending (R : ℕ → ℕ → BitVec 32) (base : ℕ) (r : Fin 2) (B : Memref sig .scVector .vmem S4096 .i32) (sm : DmaSem sig) (k : ℕ) : sProp ℳ :=
  iprop((⌜k = 0⌝ ∗ resting (F := F) d i arg3 R base r B sm k)
    ∨ (∃ u : Fin k1_t1_loop.trips, ⌜u.val + 1 = k⌝ ∗ sent (F := F) d i arg3 R base r u.val k ∗ flight (F := F) d i arg3 R base r B sm u))

/-- What the tile owes, with the waits it has made beyond `W`. -/
def owed (O : CellTallies nD τ sig (HIx 2)) (W : Waits sig (HIx 2)) : sProp ℳ :=
  iprop(∃ W', ⌜∀ p ∈ W', p ∈ W ∨ p.2 = none⌝ ∗ owes (tl d i) O W')

theorem land {α : Type} {Q : α → sProp ℳ} (R : ℕ → ℕ → BitVec 32) (base : ℕ) (r : Fin 2) (B : Memref sig .scVector .vmem S4096 .i32) (sm : DmaSem sig) (k : ℕ)
    (O : CellTallies nD τ sig (HIx 2)) (W : Waits sig (HIx 2)) (hk : k ≠ 0) {hB : B.view.WordExact} {hw : (win0 arg3).view.WordExact}
    {K : PUnit → Prog (TpuEff nD τ sig (Elt F) Λ₀ (tl d i).2) α} :
    iprop(pending (F := F) d i arg3 R base r B sm k ∗ MayWaits (tl d i) none O ∗ owed (F := F) d i O W)
      ⊢ iprop((iprop(resting (F := F) d i arg3 R base r B sm k ∗ owed (F := F) d i O W) -∗ wp frame (wpE (defs₀ (F := F)) 𝒱₀ (tl d i) none) Set.univ (K ⟨⟩) Q)
        -∗ wp frame (wpE (defs₀ (F := F)) 𝒱₀ (tl d i) none) Set.univ (.op (.waitDma2 sm B (win0 arg3) hB hw) K) Q) := by
  unfold pending owed
  iintro ⟨(⟨%h0, H⟩ | ⟨%u, %hu, Hs, Hf⟩), #Hmw, ⟨%W', %hW, HO⟩⟩ Hk
  · exact absurd h0 hk
  · unfold flight
    iapply (wp_waitLocalO (countersEmb : UEmb Counters ℳ) 𝒱₀ (tl d i) none none rfl (O := O) (W := W')) $$ [Hf HO]
    · isplitl [Hf]; · iexact Hf
      isplitl [HO]; · iexact HO
      iapply (MayWaits.elim (SemLoc.dma sm)) $$ Hmw
    iintro ⟨⟨Hd, Hb⟩, Hv, HO⟩
    iapply Hk
    isplitr [HO]
    · unfold resting sent
      subst hu
      icases Hs with ⟨Hp, Ht⟩
      rw [past_push]
      isplitl [Hp Hd Ht]
      · isplitl [Hp Hd]
        · isplitl [Hd]; · iexact Hd
          iexact Hp
        · iexact Ht
      isplitl [Hb]; · iexact Hb
      iexact Hv
    · iexists (insert (SemLoc.dma sm, none) W')
      isplitr
      · ipureintro
        intro p hp
        rcases Finset.mem_insert.mp hp with h | h
        · exact .inr (by rw [h])
        · exact hW p h
      · iexact HO

/-- Before the first trip nothing is in flight. -/
theorem land_zero (R : ℕ → ℕ → BitVec 32) (base : ℕ) (r : Fin 2) (B : Memref sig .scVector .vmem S4096 .i32) (sm : DmaSem sig) :
    pending (F := F) d i arg3 R base r B sm 0 ⊢ resting (F := F) d i arg3 R base r B sm 0 := by
  unfold pending
  iintro (⟨%h0, H⟩ | ⟨%u, %hu, Hs, Hf⟩)
  · iexact H
  · exact absurd hu (by omega)

/-- A wait made by every trip but the first brings the buffer to rest. -/
theorem land_if {α : Type} {Q : α → sProp ℳ} (R : ℕ → ℕ → BitVec 32) (base : ℕ) (r : Fin 2) (B : Memref sig .scVector .vmem S4096 .i32) (sm : DmaSem sig) (k : ℕ)
    (O : CellTallies nD τ sig (HIx 2)) (W : Waits sig (HIx 2)) {b : BitVec 1} (hk : Iff (b = 1#1) (k ≠ 0)) {hB : B.view.WordExact} {hw : (win0 arg3).view.WordExact}
    {K : Prog (TpuEff nD τ sig (Elt F) Λ₀ (tl d i).2) α} :
    iprop(pending (F := F) d i arg3 R base r B sm k ∗ MayWaits (tl d i) none O ∗ owed (F := F) d i O W)
      ⊢ iprop((iprop(resting (F := F) d i arg3 R base r B sm k ∗ owed (F := F) d i O W) -∗ wp frame (wpE (defs₀ (F := F)) 𝒱₀ (tl d i) none) Set.univ K Q)
        -∗ wp frame (wpE (defs₀ (F := F)) 𝒱₀ (tl d i) none) Set.univ
          (if _ : b = 1#1 then (Prog.lift (.waitDma2 sm B (win0 arg3) hB hw) >>= fun _ => K) else K) Q) := by
  by_cases hb : b = 1#1
  · rw [dif_pos hb]
    exact land (F := F) d i arg3 R base r B sm k O W (hk.mp hb) (K := fun _ => K)
  · rw [dif_neg hb]
    obtain rfl : k = 0 := not_not.mp fun h => hb (hk.mpr h)
    iintro ⟨H, -, HO⟩ Hk
    iapply Hk
    isplitl [H]
    · iapply (land_zero (F := F) d i arg3 R base r B sm) $$ H
    · iexact HO

/-- Sending a buffer that holds a group's counts. -/
theorem send {α : Type} (R : ℕ → ℕ → BitVec 32) (base : ℕ) (r : Fin 2) (B : Memref sig .scVector .vmem S4096 .i32) (sm : DmaSem sig)
    (u : Fin k1_t1_loop.trips) {Q : α → sProp ℳ} {h1 : B.view.WordExact} {h2 : (win i arg3 r u).view.WordExact} {h3}
    {K : PUnit → Prog (TpuEff nD τ sig (Elt F) Λ₀ (tl d i).2) α} :
    iprop(sent (F := F) d i arg3 R base r u.val u.val
        ∗ owns (tl d i) B fullShare (fun w => outWord R ((base + (32 * u.val + 16 * r.val)) * 256 + (w 0).val)) ∗ semVal (tl d i, .dma sm) 0)
      ⊢ iprop((pending (F := F) d i arg3 R base r B sm (u.val + 1) -∗ wp frame (wpE (defs₀ (F := F)) 𝒱₀ (tl d i) none) Set.univ (K ⟨⟩) Q)
        -∗ wp frame (wpE (defs₀ (F := F)) 𝒱₀ (tl d i) none) Set.univ (.op (.enqueueDma B (.here (win i arg3 r u)) (.dma sm) h1 h2 h3) K) Q) := by
  unfold sent
  rw [todo_peel]
  unfold owns
  iintro ⟨⟨Hp, ⟨Hw, Ht⟩⟩, ⟨%f, %hf, HB⟩, Hv⟩ Hk
  icases (show spare (F := F) d i (win i arg3 r u) ⊢ iprop(∃ g, (win i arg3 r u).view.loc (tl d i) ↦[(win i arg3 r u).view.set]{fullShare} g) from .rfl) $$ Hw with ⟨%g, Hw⟩
  iapply (wp_dmaLocal (countersEmb : UEmb Counters ℳ) 𝒱₀ (tl d i) none none (win0 arg3).view.dmaCredit rfl
    (View.dmaCredit_pos _ (show 0 < S4096.numel by decide)) (Finset.Subset.refl _)) $$ [HB Hw Hv]
  · isplitl [HB]; · iexact HB
    isplitl [Hw]; · iexact Hw
    iexact Hv
  iintro Hf
  iapply Hk
  unfold pending
  iright
  iexists u
  isplitr; · ipureintro; rfl
  unfold sent
  isplitl [Hp Ht]
  · isplitl [Hp]; · iexact Hp
    iexact Ht
  unfold flight
  have hread := (View.read_write_univ (Val := Elt F) (v := (win i arg3 r u).view) g (B.view.read (Elt F) f)).trans hf
  iapply (Flight_mono (countersEmb : UEmb Counters ℳ) (tl d i)
    (D := iprop(((win i arg3 r u).view.loc (tl d i) ↦[(win i arg3 r u).view.set]{fullShare}
        (win i arg3 r u).view.write (Elt F) g (B.view.read (Elt F) f) Finset.univ) ∗ B.view.loc (tl d i) ↦[B.view.set]{fullShare} f))
    (by
      unfold filled spare owns
      iintro ⟨Hw, HB⟩
      isplitl [Hw]
      · iexists _
        isplitr
        · ipureintro; exact hread
        · iexact Hw
      · iexists f
        iexact HB)) $$ Hf

/-- Run the first part of a program, then the rest from what it leaves. -/
theorem first {α : Type} {P : sProp ℳ} {A : PUnit → sProp ℳ} {Q : α → sProp ℳ}
    {p : Prog (TpuEff nD τ sig (Elt F) Λ₀ (tl d i).2) PUnit} {K : PUnit → Prog (TpuEff nD τ sig (Elt F) Λ₀ (tl d i).2) α}
    (h : P ⊢ wp frame (wpE (defs₀ (F := F)) 𝒱₀ (tl d i) none) Set.univ p A) :
    P ⊢ iprop((A ⟨⟩ -∗ wp frame (wpE (defs₀ (F := F)) 𝒱₀ (tl d i) none) Set.univ (K ⟨⟩) Q)
      -∗ wp frame (wpE (defs₀ (F := F)) 𝒱₀ (tl d i) none) Set.univ (p >>= K) Q) := by
  iintro HP HK
  rw [wp_bind]
  iapply (wp_wand_r Idealize.ShloMosaic.frame (wpE (defs₀ (F := F)) 𝒱₀ (tl d i) none) Set.univ)
  isplitl [HP]
  · iapply h; iexact HP
  iintro %_ HA
  iapply HK $$ HA

/-- Whether a trip waits: every one but the first. -/
theorem waits_iff (t : Fin k1_t1_loop.trips) :
    Iff (Scalar.cmpi .ne (Scalar.extui (Scalar.cmpi .sgt (Scf.iv 0#32 1#32 t) 0#32) : BitVec 32) 0#32 = 1#1) (t.val ≠ 0) := by
  revert t; decide

/-- Contents zeroed throughout are the counts before any step. -/
theorem zeroed_counts (R : ℕ → ℕ → BitVec 32) (b : ℕ) (B : Memref sig .scVector .vmem S4096 .i32) :
    zeroed (F := F) d i B 256 ⊢ owns (tl d i) B fullShare (fun w => acc R b 0 (w 0).val) := by
  unfold zeroed owns
  iintro ⟨%f, %hf, H⟩
  iexists f
  isplitr
  · ipureintro
    funext w
    rw [acc_zero]
    exact hf w (w 0).isLt
  · iexact H

/-- And any contents are zeroed up to no word. -/
theorem spare_zeroed (B : Memref sig .scVector .vmem S4096 .i32) : spare (F := F) d i B ⊢ zeroed (F := F) d i B 0 := by
  unfold spare zeroed
  iintro ⟨%f, H⟩
  iexists f
  isplitr
  · ipureintro; intro j hj; omega
  · iexact H

/-- The counts of all a group's steps are the group's words of the output. -/
theorem counted_out (R : ℕ → ℕ → BitVec 32) (hR : ∀ r q, (R r q).toNat < 832) (b : ℕ) (hb : b % 16 = 0) (B : Memref sig .scVector .vmem S4096 .i32) :
    owns (tl d i) B fullShare (fun w => acc R b 64 (w 0).val)
      ⊢ (owns (tl d i) B fullShare (fun w => outWord R (b * 256 + (w 0).val)) : sProp ℳ) := by
  rw [show (fun w : S4096.Idx => acc R b 64 (w 0).val) = fun w => outWord R (b * 256 + (w 0).val) from
    funext fun w => acc_full R hR b _ hb (w 0).isLt]

theorem trip (R : ℕ → ℕ → BitVec 32) (hR : ∀ r q, (R r q).toNat < 832) (base : ℕ) (hb : base % 16 = 0) (Y : S256x64.Idx → BitVec 32)
    (hY : ∀ i, Y i = R (base + (i 0).val) (i 1).val) (O : CellTallies nD τ sig (HIx 2)) (W : Waits sig (HIx 2)) (t : Fin k1_t1_loop.trips) :
    iprop(MayWaits (tl d i) none O ∗ owns (tl d i) arg4 fullShare Y ∗ pending (F := F) d i arg3 R base 0 arg5 arg7.sem t.val
        ∗ pending (F := F) d i arg3 R base 1 arg6 arg8.sem t.val ∗ owed (F := F) d i O W)
      ⊢ wp frame (wpE (defs₀ (F := F)) 𝒱₀ (tl d i) none) Set.univ
        (k1_t1_body i arg2 harg2 arg3 harg3 arg4 harg4 arg5 harg5 arg6 harg6 arg7 arg8 v20_r0 v2 lanes t ⟨⟩)
        fun _ => iprop(owns (tl d i) arg4 fullShare Y ∗ pending (F := F) d i arg3 R base 0 arg5 arg7.sem (t.val + 1)
        ∗ pending (F := F) d i arg3 R base 1 arg6 arg8.sem (t.val + 1) ∗ owed (F := F) d i O W) := by
  unfold k1_t1_body
  rw [k1_part1_eq_skeleton]
  unfold k1_part1_skel
  iintro ⟨#Hmw, H4, H5, H6, HO⟩
  rw [wp_bind]
  dsimp only
  iapply (land_if d i arg3 R base 0 arg5 arg7.sem t.val O W (waits_iff t)) $$ [H5 HO]
  · isplitl [H5]; · iexact H5
    isplitr; · iexact Hmw
    iexact HO
  unfold resting
  iintro ⟨⟨Hs, Hb, Hv⟩, HO⟩
  iapply (first d i (zero_first d i arg2 harg2 arg3 harg3 arg4 harg4 arg5 harg5 arg6 harg6 arg7 arg8 v20_r0 v2 lanes k1_pay1 k1_pay2 0#32 1#32 t)) $$ [Hb]
  · iapply spare_zeroed $$ Hb
  iintro Hb
  iapply (first d i (count_first d i arg2 harg2 arg3 harg3 arg4 harg4 arg5 harg5 arg6 harg6 arg7 arg8 v20_r0 v2 t R hR base Y hY)) $$ [H4 Hb]
  · unfold counted
    isplitl [H4]; · iexact H4
    iapply zeroed_counts $$ Hb
  unfold counted
  iintro ⟨H4, Hb⟩
  iapply (send d i arg3 R base 0 arg5 arg7.sem t) $$ [Hs Hb Hv]
  · isplitl [Hs]; · iexact Hs
    isplitl [Hb]
    · iapply (counted_out d i R hR (base + (32 * t.val + 16 * (0 : Fin 2).val)) (by simp; omega) arg5) $$ Hb
    iexact Hv
  iintro H5
  iapply (land_if d i arg3 R base 1 arg6 arg8.sem t.val O W (waits_iff t)) $$ [H6 HO]
  · isplitl [H6]; · iexact H6
    isplitr; · iexact Hmw
    iexact HO
  unfold resting
  iintro ⟨⟨Hs, Hb, Hv⟩, HO⟩
  iapply (first d i (zero_second d i arg2 harg2 arg3 harg3 arg4 harg4 arg5 harg5 arg6 harg6 arg7 arg8 v20_r0 v2 lanes k1_pay1 k1_pay2 0#32 1#32 t)) $$ [Hb]
  · iapply spare_zeroed $$ Hb
  iintro Hb
  iapply (first d i (count_second d i arg2 harg2 arg3 harg3 arg4 harg4 arg5 harg5 arg6 harg6 arg7 arg8 v20_r0 v2 t R hR base Y hY)) $$ [H4 Hb]
  · unfold counted
    isplitl [H4]; · iexact H4
    iapply zeroed_counts $$ Hb
  unfold counted
  iintro ⟨H4, Hb⟩
  sl_step
  iapply (send d i arg3 R base 1 arg6 arg8.sem t) $$ [Hs Hb Hv]
  · isplitl [Hs]; · iexact Hs
    isplitl [Hb]
    · iapply (counted_out d i R hR (base + (32 * t.val + 16 * (1 : Fin 2).val)) (by simp; omega) arg6) $$ Hb
    iexact Hv
  iintro H6
  dsimp only [Prog.bind]
  sl_step
  isplitl [H4]; · iexact H4
  isplitl [H5]; · iexact H5
  isplitl [H6]; · iexact H6
  iexact HO

/-- The tile's rows of the input, as it copies them in. -/
abbrev rows : Memref sig .scVector .hbm S256x64 .i32 :=
  arg2.slice (Rect.unit (s := S8192x64) (k1_off1 i) S256x64.size (k1_off1_inb i)) (fun _ => rfl)

/-- The tile's first row. -/
def baseRow : ℕ := 512 * (i 1).val + 256 * (i 0).val

/-- The tile's part of the output at its counts, and the same words whatever they hold. -/
def outDone (R : ℕ → ℕ → BitVec 32) : sProp ℳ :=
  bigSep Finset.univ fun r : Fin 2 => bigSep Finset.univ fun u => filled (F := F) d i arg3 R (baseRow i) r u
def outSpare : sProp ℳ :=
  bigSep Finset.univ fun r : Fin 2 => bigSep Finset.univ fun u => spare (F := F) d i (win i arg3 r u)

/-- The tile's own memory and semaphores, as the call finds and leaves them. -/
def scratch : sProp ℳ :=
  iprop(spare (F := F) d i arg4 ∗ spare (F := F) d i arg5 ∗ spare (F := F) d i arg6
    ∗ semVal (tl d i, .dma arg7.sem) 0 ∗ semVal (tl d i, .dma arg8.sem) 0 ∗ semVal (tl d i, .dma v20_r0.sem) 0)

/-- All the trips, from both buffers at rest to both with their last groups in flight. -/
theorem trips_all (R : ℕ → ℕ → BitVec 32) (hR : ∀ r q, (R r q).toNat < 832) (base : ℕ) (hb : base % 16 = 0) (Y : S256x64.Idx → BitVec 32)
    (hY : ∀ i, Y i = R (base + (i 0).val) (i 1).val) (O : CellTallies nD τ sig (HIx 2)) (W : Waits sig (HIx 2)) :
    iprop(MayWaits (tl d i) none O ∗ owns (tl d i) arg4 fullShare Y ∗ pending (F := F) d i arg3 R base 0 arg5 arg7.sem 0
        ∗ pending (F := F) d i arg3 R base 1 arg6 arg8.sem 0 ∗ owed (F := F) d i O W)
      ⊢ wp frame (wpE (defs₀ (F := F)) 𝒱₀ (tl d i) none) Set.univ
        (Scf.Loop.for k1_t1_loop k1_t1_ok ⟨⟩ (k1_t1_body i arg2 harg2 arg3 harg3 arg4 harg4 arg5 harg5 arg6 harg6 arg7 arg8 v20_r0 v2 lanes))
        fun _ => iprop(MayWaits (tl d i) none O ∗ owns (tl d i) arg4 fullShare Y ∗ pending (F := F) d i arg3 R base 0 arg5 arg7.sem 8
        ∗ pending (F := F) d i arg3 R base 1 arg6 arg8.sem 8 ∗ owed (F := F) d i O W) := by
  refine BIBase.Entails.trans ?_ (Scf.wp_for frame (wpE (defs₀ (F := F)) 𝒱₀ (tl d i) none) Set.univ _ _ _ k1_t1_ok PUnit.unit _
    (fun k _ => iprop(MayWaits (tl d i) none O ∗ owns (tl d i) arg4 fullShare Y ∗ pending (F := F) d i arg3 R base 0 arg5 arg7.sem k
        ∗ pending (F := F) d i arg3 R base 1 arg6 arg8.sem k ∗ owed (F := F) d i O W)) fun t _ => ?_)
  · iintro H
    isplitl [H]; · iexact H
    iintro %_ H
    rw [← t1_trips]; iexact H
  · iintro ⟨#Hmw, H⟩
    iapply (wp_wand_r Idealize.ShloMosaic.frame (wpE (defs₀ (F := F)) 𝒱₀ (tl d i) none) Set.univ)
    isplitl [H]
    · iapply (trip d i arg2 harg2 arg3 harg3 arg4 harg4 arg5 harg5 arg6 harg6 arg7 arg8 v20_r0 v2 R hR base hb Y hY O W t)
      isplitr; · iexact Hmw
      iexact H
    iintro %_ H
    isplitr; · iexact Hmw
    iexact H

/-- After the last trip every group of a buffer is sent; before the first none is. -/
theorem sent_end (R : ℕ → ℕ → BitVec 32) (base : ℕ) (r : Fin 2) :
    sent (F := F) d i arg3 R base r 8 8 ⊢ bigSep Finset.univ fun u => filled (F := F) d i arg3 R base r u := by
  unfold sent
  rw [Finset.filter_true_of_mem fun u _ => lt_of_lt_of_eq u.isLt t1_trips]
  iintro ⟨H, -⟩
  iexact H

theorem sent_start (R : ℕ → ℕ → BitVec 32) (base : ℕ) (r : Fin 2) :
    (bigSep Finset.univ fun u => spare (F := F) d i (win i arg3 r u)) ⊢ sent (F := F) d i arg3 R base r 0 0 := by
  unfold sent
  rw [Finset.filter_true_of_mem fun u _ => Nat.zero_le _, Finset.filter_false_of_mem fun u _ => Nat.not_lt_zero _, bigSep_empty]
  iintro H
  isplitr; · iempintro
  iexact H

theorem body_tile (R : ℕ → ℕ → BitVec 32) (hR : ∀ r q, (R r q).toNat < 832) (q : PosShare TreeShare)
    (O : CellTallies nD τ sig (HIx 2)) (W : Waits sig (HIx 2)) :
    iprop(MayWaits (tl d i) none O ∗ owns (tl d i) (rows i arg2) q (fun j : S256x64.Idx => R (baseRow i + (j 0).val) (j 1).val)
        ∗ outSpare (F := F) d i arg3 ∗ scratch (F := F) d i arg4 arg5 arg6 arg7 arg8 v20_r0 ∗ owed (F := F) d i O W)
      ⊢ wp frame (wpE (defs₀ (F := F)) 𝒱₀ (tl d i) none) Set.univ
        (cc1__hist i arg2 harg2 arg3 harg3 arg4 harg4 arg5 harg5 arg6 harg6 arg7 arg8 v20_r0)
        fun _ => iprop(owns (tl d i) (rows i arg2) q (fun j : S256x64.Idx => R (baseRow i + (j 0).val) (j 1).val)
        ∗ outDone (F := F) d i arg3 R ∗ scratch (F := F) d i arg4 arg5 arg6 arg7 arg8 v20_r0 ∗ owed (F := F) d i O W) := by
  rw [cc1__hist_eq_skeleton]
  unfold cc1__hist_skel scratch owns
  iintro ⟨#Hmw, ⟨%f2, %hf2, H2⟩, Ho, ⟨H4, H5, H6, H7, H8, Hr⟩, HO⟩
  icases (show spare (F := F) d i arg4 ⊢ iprop(∃ g, arg4.view.loc (tl d i) ↦[arg4.view.set]{fullShare} g) from .rfl) $$ H4 with ⟨%g, H4⟩
  icases (show owed (F := F) d i O W ⊢ iprop(∃ W', ⌜∀ p ∈ W', p ∈ W ∨ p.2 = none⌝ ∗ owes (tl d i) O W') from .rfl) $$ HO with ⟨%W', %hW, HO⟩
  dsimp only
  iapply (wp_dmaLocal (countersEmb : UEmb Counters ℳ) 𝒱₀ (tl d i) none none arg4.view.dmaCredit rfl
    (View.dmaCredit_pos _ (show 0 < S256x64.numel by decide)) (Finset.Subset.refl _)) $$ [H2 H4 Hr]
  · isplitl [H2]; · iexact H2
    isplitl [H4]; · iexact H4
    iexact Hr
  iintro Hf
  iapply (wp_waitLocalO (countersEmb : UEmb Counters ℳ) 𝒱₀ (tl d i) none none rfl (O := O) (W := W')) $$ [Hf HO]
  · isplitl [Hf]; · iexact Hf
    isplitl [HO]; · iexact HO
    iapply (MayWaits.elim (SemLoc.dma v20_r0.sem)) $$ Hmw
  iintro ⟨⟨H4, H2⟩, Hr, HO⟩
  dsimp only [Prog.bind]
  have hbase : baseRow i % 16 = 0 := by unfold baseRow; omega
  have h4 := (View.read_write_univ (Val := Elt F) (v := arg4.view) g ((rows i arg2).view.read (Elt F) f2)).trans hf2
  icases (show outSpare (F := F) d i arg3 ⊢ _ from (two (F := F) fun r => bigSep Finset.univ fun u => spare (F := F) d i (win i arg3 r u)).1) $$ Ho with ⟨Ho0, Ho1⟩
  iapply (first d i (trips_all d i arg2 harg2 arg3 harg3 arg4 harg4 arg5 harg5 arg6 harg6 arg7 arg8 v20_r0 _ R hR (baseRow i) hbase _ (fun _ => rfl) O W))
    $$ [H4 H5 H6 H7 H8 HO Ho0 Ho1]
  · isplitr; · iexact Hmw
    isplitl [H4]
    · unfold owns
      iexists (arg4.view.write (Elt F) g ((rows i arg2).view.read (Elt F) f2) Finset.univ)
      isplitr
      · ipureintro; exact h4
      · iexact H4
    unfold pending resting
    isplitl [H5 H7 Ho0]
    · ileft
      isplitr; · ipureintro; rfl
      isplitl [Ho0]; · iapply sent_start $$ Ho0
      isplitl [H5]; · iexact H5
      iexact H7
    isplitl [H6 H8 Ho1]
    · ileft
      isplitr; · ipureintro; rfl
      isplitl [Ho1]; · iapply sent_start $$ Ho1
      isplitl [H6]; · iexact H6
      iexact H8
    unfold owed
    iexists (insert (SemLoc.dma v20_r0.sem, none) W')
    isplitr
    · ipureintro
      intro p hp
      rcases Finset.mem_insert.mp hp with h | h
      · exact .inr (by rw [h])
      · exact hW p h
    · iexact HO
  iintro ⟨-, H4, H5, H6, HO⟩
  iapply (land (F := F) d i arg3 R (baseRow i) 0 arg5 arg7.sem 8 O W (by decide)) $$ [H5 HO]
  · isplitl [H5]; · iexact H5
    isplitr; · iexact Hmw
    iexact HO
  unfold resting
  iintro ⟨⟨Hs0, H5, H7⟩, HO⟩
  iapply (land (F := F) d i arg3 R (baseRow i) 1 arg6 arg8.sem 8 O W (by decide)) $$ [H6 HO]
  · isplitl [H6]; · iexact H6
    isplitr; · iexact Hmw
    iexact HO
  unfold resting
  iintro ⟨⟨Hs1, H6, H8⟩, HO⟩
  dsimp only [Prog.bind]
  sl_step
  isplitl [H2]
  · iexists f2
    isplitr
    · ipureintro; exact hf2
    · iexact H2
  isplitl [Hs0 Hs1]
  · iapply (show _ ⊢ outDone (F := F) d i arg3 R from
      (two (F := F) fun r => bigSep Finset.univ fun u => filled (F := F) d i arg3 R (baseRow i) r u).2)
    isplitl [Hs0]
    · iapply sent_end $$ Hs0
    · iapply sent_end $$ Hs1
  isplitr [HO]
  · isplitl [H4]
    · unfold owns spare
      icases H4 with ⟨%f4, %hf4, H4⟩
      iexists f4
      iexact H4
    isplitl [H5]; · iexact H5
    isplitl [H6]; · iexact H6
    isplitl [H7]; · iexact H7
    isplitl [H8]; · iexact H8
    iexact Hr
  iexact HO

end Body

end Cert.Proof

end
-- ==== Proof.Calls.lean ====
/-
  The two SparseCore calls as the launch sees them: what each hands its tiles and takes back, and each tile's task.
-/
module

public import proofs.«01_k».proof.Proof.Trip

@[expose] public section

noncomputable section

namespace Cert.Proof

open Cert.KernelIdeal Cert.KernelIdeal.Gen Cert.Proof.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers

variable {F : FTy → Type} [FloatOps F]

local notation "ℳ" => MT nD τ sig (HIx 2) (Elt F) ℕ UU ℕ

/-- The second call's kernel is the first's. -/
theorem hist_again : cc3__hist (F := F) = cc1__hist (F := F) := by
  set_option maxRecDepth 65536 in
  rfl

/-- The grid point of tile `s` of SparseCore `c`. -/
def point (c : Fin 2) (s : Fin 16) : grid1.Coords := fun | 0 => c | 1 => s | ⟨_ + 2, h⟩ => absurd h (Nat.not_lt.2 (Nat.le_add_left _ _))

/-- The call's rows and its output, as a tile names them. -/
abbrev xM : Fin 2 → Memref sig .scVector .hbm S8192x64 .i32 := fun | 0 => Memref.whole main_v4_scv | 1 => Memref.whole main_v8_scv
abbrev oM : Fin 2 → Memref sig .scVector .hbm S2097152 .i32 := fun | 0 => Memref.whole main_v5_scv | 1 => Memref.whole main_v9_scv

/-- A tile's words before its task: its rows, and its part of the output, whatever it holds. -/
def before (R : ℕ → ℕ → BitVec 32) (d : Dev nD) (i : grid1.Coords) (q : Fin 2) : sProp ℳ :=
  iprop(owns (tl d i) (rows i (xM q)) fullShare (fun j : S256x64.Idx => R (baseRow i + (j 0).val) (j 1).val) ∗ outSpare (F := F) d i (oM q))
/-- And after it: its rows, and its part of the output at the counts. -/
def after (R : ℕ → ℕ → BitVec 32) (d : Dev nD) (i : grid1.Coords) (q : Fin 2) : sProp ℳ :=
  iprop(owns (tl d i) (rows i (xM q)) fullShare (fun j : S256x64.Idx => R (baseRow i + (j 0).val) (j 1).val) ∗ outDone (F := F) d i (oM q) R)

instance (R : ℕ → ℕ → BitVec 32) (d : Dev nD) (i : grid1.Coords) (q : Fin 2) : BI.Storable (upEmb : UEmb _ ℳ) (before (F := F) R d i q) := by
  unfold before outSpare spare; infer_instance
instance (R : ℕ → ℕ → BitVec 32) (d : Dev nD) (i : grid1.Coords) (q : Fin 2) : BI.Storable (upEmb : UEmb _ ℳ) (after (F := F) R d i q) := by
  unfold after outDone filled; infer_instance

theorem cores (q : Fin 2) : (K (F := F)).nCore q = 2 := by fin_cases q <;> rfl
theorem subs (q : Fin 2) : (K (F := F)).nSub q = 16 := by fin_cases q <;> rfl

/-- The grid point of a task. -/
def task (q : Fin 2) (c : Fin ((K (F := F)).nCore q)) (s : Fin ((K (F := F)).nSub q)) : grid1.Coords :=
  point (Fin.cast (cores (F := F) q) c) (Fin.cast (subs (F := F) q) s)

/-- The launch's payloads: a call takes the words of all its tiles and gives them back. -/
def P (R : Dev nD → Fin 2 → ℕ → ℕ → BitVec 32) : Pay (K (F := F)) (N := 2) (nD := nD) (Val := Elt F) (Name := ℕ) (U := UU) where
  st q d c := bigSep Finset.univ fun i => before (F := F) (R d q) d (task (F := F) q c i) q
  dn q d c := bigSep Finset.univ fun i => after (F := F) (R d q) d (task (F := F) q c i) q
  go q d c i := before (F := F) (R d q) d (task (F := F) q c i) q
  td q d c i := after (F := F) (R d q) d (task (F := F) q c i) q
  x _ _ := iprop(emp)

instance (R : Dev nD → Fin 2 → ℕ → ℕ → BitVec 32) : (P (F := F) R).IsStorable where
  st q d c := (inferInstance : BI.Storable (upEmb : UEmb _ ℳ) (bigSep Finset.univ fun i => before (F := F) (R d q) d (task (F := F) q c i) q))
  dn q d c := (inferInstance : BI.Storable (upEmb : UEmb _ ℳ) (bigSep Finset.univ fun i => after (F := F) (R d q) d (task (F := F) q c i) q))
  go q d c i := (inferInstance : BI.Storable (upEmb : UEmb _ ℳ) (before (F := F) (R d q) d (task (F := F) q c i) q))
  td q d c i := (inferInstance : BI.Storable (upEmb : UEmb _ ℳ) (after (F := F) (R d q) d (task (F := F) q c i) q))

/-! ## A tile's own memory -/

section Own

variable (d : Dev nD) (i : grid1.Coords)

/-- Three buffers of a tile's own, of all it has. -/
theorem own_bufs (a b c : Ref sig .scVector) (ha : ((tl d i).2.devRef a).owner = .proc (tl d i).2) (hb : ((tl d i).2.devRef b).owner = .proc (tl d i).2)
    (hc : ((tl d i).2.devRef c).owner = .proc (tl d i).2) (hab : b ≠ a) (hac : c ≠ a) (hbc : c ≠ b) :
    (ownBufs (tl d i) : sProp ℳ) = iprop((∃ f, (tl d i).loc a ↦{fullShare} f) ∗ (∃ f, (tl d i).loc b ↦{fullShare} f)
      ∗ (∃ f, (tl d i).loc c ↦{fullShare} f)
      ∗ bigSep ((((ownRefs (tl d i).2).erase ((tl d i).2.devRef a)).erase ((tl d i).2.devRef b)).erase ((tl d i).2.devRef c))
          fun b => iprop(∃ f, ((d, b) : Loc nD τ sig) ↦{fullShare} f)) := by
  unfold SparseCore.Cfg.ownBufs
  refine (SparseCore.bigSep_erase' (SparseCore.Cfg.mem_ownRefs_of_owner ha)).trans ?_
  rw [SparseCore.bigSep_erase' (Finset.mem_erase.mpr ⟨fun e => absurd (Proc.devRef_injective _ e) hab, SparseCore.Cfg.mem_ownRefs_of_owner hb⟩),
    SparseCore.bigSep_erase' (Finset.mem_erase.mpr ⟨fun e => absurd (Proc.devRef_injective _ e) hbc,
      Finset.mem_erase.mpr ⟨fun e => absurd (Proc.devRef_injective _ e) hac, SparseCore.Cfg.mem_ownRefs_of_owner hc⟩⟩)]

/-- Three semaphores of a tile's own, of all it has. -/
theorem own_sems (a b c : SemLoc sig) (ha : a.isScoped .scVector = true) (hb : b.isScoped .scVector = true) (hc : c.isScoped .scVector = true)
    (hab : b ≠ a) (hac : c ≠ a) (hbc : c ≠ b) :
    (ownSems0 (tl d i) : sProp ℳ) = iprop(semVal (tl d i, a) 0 ∗ semVal (tl d i, b) 0 ∗ semVal (tl d i, c) 0
      ∗ bigSep ((((ownCells (tl d i)).erase (tl d i, a)).erase (tl d i, b)).erase (tl d i, c)) fun g => semVal g 0) := by
  unfold SparseCore.Cfg.ownSems0
  rw [SparseCore.bigSep_erase' ((mem_ownCells (g := (tl d i, a))).mpr ⟨rfl, ha⟩),
    SparseCore.bigSep_erase' (Finset.mem_erase.mpr ⟨fun e => hab (Prod.ext_iff.mp e).2, (mem_ownCells (g := (tl d i, b))).mpr ⟨rfl, hb⟩⟩),
    SparseCore.bigSep_erase' (Finset.mem_erase.mpr ⟨fun e => hbc (Prod.ext_iff.mp e).2,
      Finset.mem_erase.mpr ⟨fun e => hac (Prod.ext_iff.mp e).2, (mem_ownCells (g := (tl d i, c))).mpr ⟨rfl, hc⟩⟩⟩)]

/-- A tile's task of one call, from the words it is handed and all it has of its own. -/
theorem task_wp (R : ℕ → ℕ → BitVec 32) (hR : ∀ r p, (R r p).toNat < 832) (q : Fin 2)
    (B4 : Memref sig .scVector .vmem S256x64 .i32) (h4 : B4.IsWhole) (B5 B6 : Memref sig .scVector .vmem S4096 .i32) (h5 : B5.IsWhole) (h6 : B6.IsWhole)
    (s7 s8 s9 : DmaSems sig S_) (hx : (xM q).IsWhole) (ho : (oM q).IsWhole)
    {X4 X5 X6 Zb Zs : sProp ℳ} (hZb : (ownBufs (tl d i) : sProp ℳ) = iprop(X4 ∗ X5 ∗ X6 ∗ Zb))
    (hZs : (ownSems0 (tl d i) : sProp ℳ) = iprop(semVal (tl d i, .dma s7.sem) 0 ∗ semVal (tl d i, .dma s8.sem) 0 ∗ semVal (tl d i, .dma s9.sem) 0 ∗ Zs))
    (e4 : X4 = spare (F := F) d i B4) (e5 : X5 = spare (F := F) d i B5) (e6 : X6 = spare (F := F) d i B6)
    (O : CellTallies nD τ sig (HIx 2)) (W : Waits sig (HIx 2)) (hO : ∀ g, O g none = 0) :
    iprop(levAts (K (F := F)).L (K (F := F)).lev ∗ emp ∗ before (F := F) R d i q ∗ scopedBufs (tl d i) ∗ scopedSems0 (tl d i) ∗ owes (tl d i) O W)
      ⊢ wp frame (wpE (defs₀ (F := F)) 𝒱₀ (tl d i) none) Set.univ
          (cc1__hist i (xM q) hx (oM q) ho B4 h4 B5 h5 B6 h6 s7 s8 s9)
          fun _ => iprop(after (F := F) R d i q ∗ scopedBufs (tl d i) ∗ scopedSems0 (tl d i)
            ∗ ∃ W', ⌜∀ p ∈ W', p ∈ W ∨ p.2 = none ∨ p.2 = some q⌝ ∗ owes (tl d i) O W') := by
  subst e4 e5 e6
  rw [(K (F := F)).scopedBufs_V facts d _ _, SparseCore.Cfg.scopedSems0_V (Val := Elt F) d _ _]
  rw [show (ownBufs (V d ((i 0).castLE hcore1) ((i 1).castLE hsub1)) : sProp ℳ) = _ from hZb,
    show (ownSems0 (V d ((i 0).castLE hcore1) ((i 1).castLE hsub1)) : sProp ℳ) = _ from hZs]
  unfold before after
  iintro ⟨Hlv, -, ⟨Hr, Ho⟩, ⟨H4, H5, H6, HZb⟩, ⟨H7, H8, H9, HZs⟩, HO⟩
  iapply (wp_wand_r Idealize.ShloMosaic.frame (wpE (defs₀ (F := F)) 𝒱₀ (tl d i) none) Set.univ)
  isplitl [Hlv Hr Ho H4 H5 H6 H7 H8 H9 HO]
  · iapply (body_tile d i (xM q) hx (oM q) ho B4 h4 B5 h5 B6 h6 s7 s8 s9 R hR fullShare O W)
    isplitl [Hlv]; · iapply ((K (F := F)).mayWaits_none hO) $$ Hlv
    isplitl [Hr]; · iexact Hr
    isplitl [Ho]; · iexact Ho
    isplitr [HO]
    · unfold scratch
      isplitl [H4]; · iexact H4
      isplitl [H5]; · iexact H5
      isplitl [H6]; · iexact H6
      isplitl [H7]; · iexact H7
      isplitl [H8]; · iexact H8
      iexact H9
    unfold owed
    iexists W
    isplitr
    · ipureintro; exact fun p hp => .inl hp
    · iexact HO
  unfold scratch owed
  iintro %_ ⟨Hr, Ho, ⟨H4, H5, H6, H7, H8, H9⟩, ⟨%W', %hW, HO⟩⟩
  isplitl [Hr Ho]
  · isplitl [Hr]; · iexact Hr
    iexact Ho
  isplitl [H4 H5 H6 HZb]
  · isplitl [H4]; · iexact H4
    isplitl [H5]; · iexact H5
    isplitl [H6]; · iexact H6
    iexact HZb
  isplitl [H7 H8 H9 HZs]
  · isplitl [H7]; · iexact H7
    isplitl [H8]; · iexact H8
    isplitl [H9]; · iexact H9
    iexact HZs
  iexists W'
  isplitr
  · ipureintro; exact fun p hp => (hW p hp).imp_right .inl
  · iexact HO

end Own

/-- What a task's program is in each call. -/
theorem defs_first (c : Fin 2) (s : Fin 16) :
    defs₀ (F := F) (.scVector (c.castLE hcore1) (s.castLE hsub1)) 1 () = cc1__hist (point c s) (xM 0) (Memref.isWhole_whole _) (oM 0) (Memref.isWhole_whole _)
      (Memref.whole cc1_scratch0) (Memref.isWhole_whole _) (Memref.whole cc1_scratch1) (Memref.isWhole_whole _) (Memref.whole cc1_scratch2) (Memref.isWhole_whole _)
      cc1_scratch3 cc1_scratch4 cc1_scoped0 := by
  refine (show _ = SparseCore.onTile hcore1 hsub1 (fun c s => cc1__hist (point c s) (xM 0) (Memref.isWhole_whole _) (oM 0) (Memref.isWhole_whole _)
    (Memref.whole cc1_scratch0) (Memref.isWhole_whole _) (Memref.whole cc1_scratch1) (Memref.isWhole_whole _) (Memref.whole cc1_scratch2) (Memref.isWhole_whole _)
    cc1_scratch3 cc1_scratch4 cc1_scoped0) PUnit.unit (c.castLE hcore1) (s.castLE hsub1) from rfl).trans ?_
  have hc : (c.castLE hcore1).val < grid1.bound 0 ∧ (s.castLE hsub1).val < grid1.bound 1 := ⟨c.isLt, s.isLt⟩
  simp only [SparseCore.onTile, hc, and_self, ↓reduceDIte]
  rfl

theorem defs_second (c : Fin 2) (s : Fin 16) :
    defs₀ (F := F) (.scVector (c.castLE hcore3) (s.castLE hsub3)) 3 () = cc1__hist (point c s) (xM 1) (Memref.isWhole_whole _) (oM 1) (Memref.isWhole_whole _)
      (Memref.whole cc3_scratch0) (Memref.isWhole_whole _) (Memref.whole cc3_scratch1) (Memref.isWhole_whole _) (Memref.whole cc3_scratch2) (Memref.isWhole_whole _)
      cc3_scratch3 cc3_scratch4 cc3_scoped0 := by
  refine (show _ = SparseCore.onTile hcore3 hsub3 (fun c s => cc3__hist (point c s) (xM 1) (Memref.isWhole_whole _) (oM 1) (Memref.isWhole_whole _)
    (Memref.whole cc3_scratch0) (Memref.isWhole_whole _) (Memref.whole cc3_scratch1) (Memref.isWhole_whole _) (Memref.whole cc3_scratch2) (Memref.isWhole_whole _)
    cc3_scratch3 cc3_scratch4 cc3_scoped0) PUnit.unit (c.castLE hcore3) (s.castLE hsub3) from rfl).trans ?_
  have hc : (c.castLE hcore3).val < grid3.bound 0 ∧ (s.castLE hsub3).val < grid3.bound 1 := ⟨c.isLt, s.isLt⟩
  simp only [SparseCore.onTile, hc, and_self, ↓reduceDIte]
  rw [hist_again]
  rfl

/-- Every task of the launch. -/
theorem tileObl (R : Dev nD → Fin 2 → ℕ → ℕ → BitVec 32) (hR : ∀ d q r p, (R d q r p).toNat < 832) (q : Fin 2) :
    (K (F := F)).TileObl (D (F := F)) 𝒱 (P (F := F) R) v₀ q (K (F := F)).lev := by
  intro d c i O W hO _ _
  simp only [show (P (F := F) R).ox = fun _ _ => 0 from rfl, add_zero]
  fin_cases q
  · change _ ⊢ wp _ _ _ (Pipeline.liftProg (defs₀ (F := F) (.scVector ((c : Fin 2).castLE hcore1) ((i : Fin 16).castLE hsub1)) 1 ())) _
    refine BIBase.Entails.trans ?_ (Pipeline.wp_liftProg (D (F := F)) (Pipeline.defs_kernel pcfgs defs₀) 𝒱₀ _ Set.univ none _ _)
    rw [defs_first]
    refine task_wp d (point c i) (R d 0) (hR d 0) 0 _ _ _ _ _ _ _ _ _ _ _
      (own_bufs d (point c i) cc1_scratch0 cc1_scratch1 cc1_scratch2 rfl rfl rfl (by decide) (by decide) (by decide))
      (own_sems d (point c i) _ _ _ (by decide) (by decide) (by decide) (by decide) (by decide) (by decide)) ?_ ?_ ?_ O W hO <;>
    · unfold spare
      simp only [Memref.view_whole, View.set_whole]
  · change _ ⊢ wp _ _ _ (Pipeline.liftProg (defs₀ (F := F) (.scVector ((c : Fin 2).castLE hcore3) ((i : Fin 16).castLE hsub3)) 3 ())) _
    refine BIBase.Entails.trans ?_ (Pipeline.wp_liftProg (D (F := F)) (Pipeline.defs_kernel pcfgs defs₀) 𝒱₀ _ Set.univ none _ _)
    rw [defs_second]
    refine task_wp d (point c i) (R d 1) (hR d 1) 1 _ _ _ _ _ _ _ _ _ _ _
      (own_bufs d (point c i) cc3_scratch0 cc3_scratch1 cc3_scratch2 rfl rfl rfl (by decide) (by decide) (by decide))
      (own_sems d (point c i) _ _ _ (by decide) (by decide) (by decide) (by decide) (by decide) (by decide)) ?_ ?_ ?_ O W hO <;>
    · unfold spare
      simp only [Memref.view_whole, View.set_whole]

/-- A call's words dealt to its tiles, and taken back. -/
theorem vecSplit (R : Dev nD → Fin 2 → ℕ → ℕ → BitVec 32) (q : Fin 2) : (K (F := F)).VecSplit' (P (F := F) R) q := by
  intro d c
  show iprop(bigSep Finset.univ fun i => (P (F := F) R).go q d c i) ⊢ |={Set.univ}=> iprop((bigSep Finset.univ fun i => (P (F := F) R).go q d c i)
    ∗ ((bigSep Finset.univ fun i => (P (F := F) R).td q d c i) -∗ bigSep Finset.univ fun i => (P (F := F) R).td q d c i))
  iintro H
  imodintro
  isplitl [H]; · iexact H
  iintro H
  iexact H

end Cert.Proof

end
-- ==== Proof.Deal.lean ====
/-
  A call's words as the caller holds them: the rows it hands its tiles, and the counts it takes back.
-/
module

public import proofs.«01_k».proof.Proof.Calls

@[expose] public section

noncomputable section

namespace Cert.Proof

open Cert.KernelIdeal Cert.KernelIdeal.Gen Cert.Proof.Hist

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "ℳ" => MT nD τ sig (HIx 2) (Elt F) ℕ UU ℕ

/-- A tile, of both cores. -/
abbrev Task : Type := Fin 2 × Fin 16
/-- A group of a tile: its buffer and its trip. -/
abbrev Group : Type := Fin 2 × Fin k1_t1_loop.trips

/-- The rows of a tile. -/
abbrev rowRect (t : Task) : Rect S8192x64 := Rect.unit (k1_off1 (point t.1 t.2)) S256x64.size (k1_off1_inb _)
/-- The words of a group. -/
abbrev groupRect (t : Task × Group) : Rect S2097152 :=
  Rect.unit (k1_off3 (point t.1.1 t.1.2) t.2.2 (BitVec.ofNat 32 t.2.1.val)) S4096.size (k1_off3_inb _ _ _)

theorem rowRect_off (t : Task) : k1_off1 (point t.1 t.2) = ![512 * t.2.val + 256 * t.1.val, 0] := k1_off1_eq _
theorem groupRect_off (t : Task × Group) :
    k1_off3 (point t.1.1 t.1.2) t.2.2 (BitVec.ofNat 32 t.2.1.val) = ![131072 * t.1.2.val + 65536 * t.1.1.val + 8192 * t.2.2.val + 4096 * t.2.1.val] :=
  k1_off3_eq _ _ _

theorem trips_eight : k1_t1_loop.trips = 8 := by decide

theorem rows_apart (t t' : Task) (h : t ≠ t') : Disjoint (rowRect t).set (rowRect t').set := by
  obtain ⟨c, s⟩ := t
  obtain ⟨c', s'⟩ := t'
  refine Rect.unit_disjoint 0 ?_
  rw [rowRect_off, rowRect_off]
  show 512 * s.val + 256 * c.val + 256 ≤ 512 * s'.val + 256 * c'.val ∨ 512 * s'.val + 256 * c'.val + 256 ≤ 512 * s.val + 256 * c.val
  have : ¬ (c.val = c'.val ∧ s.val = s'.val) := fun e => h (Prod.ext (Fin.ext e.1) (Fin.ext e.2))
  have := c.isLt
  have := c'.isLt
  omega

theorem rows_cover : (Finset.univ : Finset Task).biUnion (fun t => (rowRect t).set) = Finset.univ := by
  refine Finset.eq_univ_of_forall fun i => Finset.mem_biUnion.mpr ?_
  have h0 : (i 0).val < 8192 := (i 0).isLt
  have h1 : (i 1).val < 64 := (i 1).isLt
  refine ⟨(⟨(i 0).val / 256 % 2, by omega⟩, ⟨(i 0).val / 512, by omega⟩), Finset.mem_univ _, Rect.mem_set_unit.mpr ?_⟩
  rw [rowRect_off]
  intro a
  fin_cases a
  · show 512 * ((i 0).val / 512) + 256 * ((i 0).val / 256 % 2) ≤ (i 0).val ∧ (i 0).val < 512 * ((i 0).val / 512) + 256 * ((i 0).val / 256 % 2) + 256
    omega
  · show 0 ≤ (i 1).val ∧ (i 1).val < 0 + 64
    omega

theorem groups_apart (t t' : Task × Group) (h : t ≠ t') : Disjoint (groupRect t).set (groupRect t').set := by
  obtain ⟨⟨c, s⟩, r, u⟩ := t
  obtain ⟨⟨c', s'⟩, r', u'⟩ := t'
  refine Rect.unit_disjoint 0 ?_
  rw [groupRect_off, groupRect_off]
  show 131072 * s.val + 65536 * c.val + 8192 * u.val + 4096 * r.val + 4096 ≤ 131072 * s'.val + 65536 * c'.val + 8192 * u'.val + 4096 * r'.val
    ∨ 131072 * s'.val + 65536 * c'.val + 8192 * u'.val + 4096 * r'.val + 4096 ≤ 131072 * s.val + 65536 * c.val + 8192 * u.val + 4096 * r.val
  have : ¬ (c.val = c'.val ∧ s.val = s'.val ∧ r.val = r'.val ∧ u.val = u'.val) := fun e =>
    h (Prod.ext (Prod.ext (Fin.ext e.1) (Fin.ext e.2.1)) (Prod.ext (Fin.ext e.2.2.1) (Fin.ext e.2.2.2)))
  have := c.isLt
  have := c'.isLt
  have := r.isLt
  have := r'.isLt
  have := lt_of_lt_of_eq u.isLt trips_eight
  have := lt_of_lt_of_eq u'.isLt trips_eight
  omega

theorem groups_cover : (Finset.univ : Finset (Task × Group)).biUnion (fun t => (groupRect t).set) = Finset.univ := by
  refine Finset.eq_univ_of_forall fun i => Finset.mem_biUnion.mpr ?_
  have h0 : (i 0).val < 2097152 := (i 0).isLt
  refine ⟨((⟨(i 0).val / 65536 % 2, by omega⟩, ⟨(i 0).val / 131072, by omega⟩), ⟨(i 0).val / 4096 % 2, by omega⟩,
    ⟨(i 0).val / 8192 % 8, by rw [trips_eight]; omega⟩), Finset.mem_univ _, Rect.mem_set_unit.mpr ?_⟩
  rw [groupRect_off]
  intro a
  fin_cases a
  show 131072 * ((i 0).val / 131072) + 65536 * ((i 0).val / 65536 % 2) + 8192 * ((i 0).val / 8192 % 8) + 4096 * ((i 0).val / 4096 % 2) ≤ (i 0).val
    ∧ (i 0).val < 131072 * ((i 0).val / 131072) + 65536 * ((i 0).val / 65536 % 2) + 8192 * ((i 0).val / 8192 % 8) + 4096 * ((i 0).val / 4096 % 2) + 4096
  omega

/-- The words are the same words whichever tile names them. -/
abbrev i₀ : grid1.Coords := point 0 0

theorem rows_any (d : Dev nD) (q : Fin 2) (i : grid1.Coords) (r : Rect S8192x64) (hr : ∀ a, r.stride a = 1) (X : r.shape.Idx → BitVec 32) :
    (owns (tl d i) ((xM q).slice r hr) fullShare X : sProp ℳ) = owns (tl d i₀) ((xM q).slice r hr) fullShare X := by
  fin_cases q <;> rfl

theorem group_any (d : Dev nD) (q : Fin 2) (i : grid1.Coords) (r : Rect S2097152) (hr : ∀ a, r.stride a = 1) (X : r.shape.Idx → BitVec 32) :
    (owns (tl d i) ((oM q).slice r hr) fullShare X : sProp ℳ) = owns (tl d i₀) ((oM q).slice r hr) fullShare X := by
  fin_cases q <;> rfl

theorem spare_any (d : Dev nD) (q : Fin 2) (i : grid1.Coords) (r : Rect S2097152) (hr : ∀ a, r.stride a = 1) :
    spare (F := F) d i ((oM q).slice r hr) = spare (F := F) d i₀ ((oM q).slice r hr) := by
  fin_cases q <;> rfl

/-- The call's rows, as the caller holds them, and its output at the counts, and whatever it holds. -/
abbrev rowsAt (R : ℕ → ℕ → BitVec 32) (d : Dev nD) (q : Fin 2) : sProp ℳ :=
  owns (tl d i₀) (xM q) fullShare (fun j : S8192x64.Idx => R (j 0).val (j 1).val)
abbrev countsAt (R : ℕ → ℕ → BitVec 32) (d : Dev nD) (q : Fin 2) : sProp ℳ :=
  owns (tl d i₀) (oM q) fullShare (fun j : S2097152.Idx => outWord R (j 0).val)

/-- The rows dealt to the tiles. -/
theorem rows_deal (R : ℕ → ℕ → BitVec 32) (d : Dev nD) (q : Fin 2) (t : Task) :
    owns (tl d i₀) ((xM q).slice (rowRect t) (fun _ => rfl)) fullShare (fun j => R ((rowRect t).emb j 0).val ((rowRect t).emb j 1).val)
      = (owns (tl d (point t.1 t.2)) (rows (point t.1 t.2) (xM q)) fullShare
          (fun j : S256x64.Idx => R (baseRow (point t.1 t.2) + (j 0).val) (j 1).val) : sProp ℳ) := by
  rw [← rows_any d q (point t.1 t.2)]
  refine congrArg (owns (tl d (point t.1 t.2)) (rows (point t.1 t.2) (xM q)) fullShare) (funext fun j => ?_)
  have h (a : Fin 2) : ((rowRect t).emb j a).val = k1_off1 (point t.1 t.2) a + 1 * (j a).val := rfl
  have h0 := (h 0).trans (congrArg (· + 1 * (j 0).val) (congrFun (rowRect_off t) 0))
  have h1 := (h 1).trans (congrArg (· + 1 * (j 1).val) (congrFun (rowRect_off t) 1))
  rw [h0, h1]
  show R (512 * t.2.val + 256 * t.1.val + 1 * (j 0).val) (0 + 1 * (j 1).val) = R (512 * t.2.val + 256 * t.1.val + (j 0).val) (j 1).val
  rw [Nat.one_mul, Nat.one_mul, Nat.zero_add]

/-- The counts of a group, part of the call's. -/
theorem counts_deal (R : ℕ → ℕ → BitVec 32) (d : Dev nD) (q : Fin 2) (t : Task × Group) :
    owns (tl d i₀) ((oM q).slice (groupRect t) (fun _ => rfl)) fullShare (fun j => outWord R ((groupRect t).emb j 0).val)
      = (filled (F := F) d (point t.1.1 t.1.2) (oM q) R (baseRow (point t.1.1 t.1.2)) t.2.1 t.2.2 : sProp ℳ) := by
  rw [← group_any d q (point t.1.1 t.1.2)]
  unfold filled
  refine congrArg (owns (tl d (point t.1.1 t.1.2)) (win (point t.1.1 t.1.2) (oM q) t.2.1 t.2.2) fullShare) (funext fun j => ?_)
  have h : ((groupRect t).emb j 0).val = k1_off3 (point t.1.1 t.1.2) t.2.2 (BitVec.ofNat 32 t.2.1.val) 0 + 1 * (j 0).val := rfl
  rw [h.trans (congrArg (· + 1 * (j 0).val) (congrFun (groupRect_off t) 0))]
  show outWord R (131072 * t.1.2.val + 65536 * t.1.1.val + 8192 * t.2.2.val + 4096 * t.2.1.val + 1 * (j 0).val)
    = outWord R ((512 * t.1.2.val + 256 * t.1.1.val + (32 * t.2.2.val + 16 * t.2.1.val)) * 256 + (j 0).val)
  congr 1
  omega

/-- A nest of conjunctions over a product. -/
theorem pairs {α β : Type} [Fintype α] [Fintype β] (Φ : α → β → sProp ℳ) :
    (bigSep Finset.univ fun a => bigSep Finset.univ fun b => Φ a b) = bigSep Finset.univ fun t : α × β => Φ t.1 t.2 := by
  exact (bigSep_univ_prod (fun t : α × β => Φ t.1 t.2)).symm

/-- Two families of conjunctions side by side. -/
theorem both {α : Type} [Fintype α] (Φ Ψ : α → sProp ℳ) :
    (bigSep Finset.univ fun a => iprop(Φ a ∗ Ψ a)) = iprop((bigSep Finset.univ fun a => Φ a) ∗ bigSep Finset.univ fun a => Ψ a) :=
  bigSep_sep Finset.univ Φ Ψ

theorem rows_out (R : ℕ → ℕ → BitVec 32) (d : Dev nD) (q : Fin 2) :
    rowsAt (F := F) R d q ⊢ bigSep Finset.univ fun t : Task => owns (tl d (point t.1 t.2)) (rows (point t.1 t.2) (xM q)) fullShare
          (fun j : S256x64.Idx => R (baseRow (point t.1 t.2) + (j 0).val) (j 1).val) := by
  refine (owns_rects (Val := Elt F) (tl d i₀) (xM q) fullShare rowRect (fun _ _ => rfl) rows_apart rows_cover (fun j : S8192x64.Idx => R (j 0).val (j 1).val)).trans ?_
  exact bigSep_mono fun t _ => BIBase.Entails.of_eq (rows_deal R d q t)

theorem rows_in (R : ℕ → ℕ → BitVec 32) (d : Dev nD) (q : Fin 2) :
    (bigSep Finset.univ fun t : Task => owns (tl d (point t.1 t.2)) (rows (point t.1 t.2) (xM q)) fullShare
          (fun j : S256x64.Idx => R (baseRow (point t.1 t.2) + (j 0).val) (j 1).val)) ⊢ rowsAt (F := F) R d q := by
  refine BIBase.Entails.trans ?_ (owns_of_rects (Val := Elt F) (tl d i₀) (xM q) fullShare rowRect (fun _ _ => rfl) rows_apart rows_cover (fun j : S8192x64.Idx => R (j 0).val (j 1).val))
  exact bigSep_mono fun t _ => BIBase.Entails.of_eq (rows_deal R d q t).symm

theorem spare_group (d : Dev nD) (q : Fin 2) (t : Task × Group) (f : (oM q).view.ty.Contents (Elt F)) :
    (owns (tl d i₀) ((oM q).slice (groupRect t) (fun _ => rfl)) fullShare (fun j => (oM q).view.read (Elt F) f ((groupRect t).emb j)) : sProp ℳ)
      ⊢ spare (F := F) d (point t.1.1 t.1.2) (win (point t.1.1 t.1.2) (oM q) t.2.1 t.2.2) := by
  rw [spare_any]
  unfold owns spare
  iintro ⟨%g, -, H⟩
  iexists g
  iexact H

theorem spare_out (d : Dev nD) (q : Fin 2) :
    spare (F := F) d i₀ (oM q) ⊢ bigSep Finset.univ fun t : Task => outSpare (F := F) d (point t.1 t.2) (oM q) := by
  unfold outSpare
  rw [bigSep_congr fun t _ => pairs _, pairs]
  unfold spare
  iintro ⟨%f, H⟩
  iapply (show ((oM q).view.loc (tl d i₀) ↦[(oM q).view.set]{fullShare} f : sProp ℳ) ⊢ _ from
    (BIBase.Entails.of_eq (pointsTo_rects (Val := Elt F) (tl d i₀) (oM q) fullShare groupRect (fun _ _ => rfl) groups_apart groups_cover f)).trans
      (bigSep_mono (s := Finset.univ) fun (t : Task × Group) _ => spare_group d q t f)) $$ H

theorem counts_in (R : ℕ → ℕ → BitVec 32) (d : Dev nD) (q : Fin 2) :
    (bigSep Finset.univ fun t : Task => outDone (F := F) d (point t.1 t.2) (oM q) R) ⊢ countsAt (F := F) R d q := by
  unfold outDone
  rw [bigSep_congr fun t _ => pairs _, pairs]
  refine BIBase.Entails.trans ?_ (owns_of_rects (Val := Elt F) (tl d i₀) (oM q) fullShare groupRect (fun _ _ => rfl) groups_apart groups_cover (fun j : S2097152.Idx => outWord R (j 0).val))
  exact bigSep_mono fun t _ => BIBase.Entails.of_eq (counts_deal R d q t).symm

/-- Before a call: the rows and the output are the words of its tiles. -/
theorem deal (R : ℕ → ℕ → BitVec 32) (d : Dev nD) (q : Fin 2) :
    iprop(rowsAt (F := F) R d q ∗ spare (F := F) d i₀ (oM q))
      ⊢ bigSep Finset.univ fun c : Fin 2 => bigSep Finset.univ fun s : Fin 16 => before (F := F) R d (point c s) q := by
  rw [pairs]
  unfold before
  rw [both]
  exact BI.sep_mono (rows_out R d q) (spare_out d q)

/-- After it: the rows as they were, and the output at the counts. -/
theorem collect (R : ℕ → ℕ → BitVec 32) (d : Dev nD) (q : Fin 2) :
    (bigSep Finset.univ fun c : Fin 2 => bigSep Finset.univ fun s : Fin 16 => after (F := F) R d (point c s) q)
      ⊢ iprop(rowsAt (F := F) R d q ∗ countsAt (F := F) R d q) := by
  rw [pairs]
  unfold after
  rw [both]
  exact BI.sep_mono (rows_in R d q) (counts_in R d q)

end Cert.Proof

end
-- ==== Proof.Bodies.lean ====
/-
  The TensorCore kernels' bodies: what each leaves in its output block, from its input blocks.
-/
module

public import proofs.«01_k».proof.Proof.Deal
public import proofs.«01_k».proof.Proof.Gen.KernelIdeal.Points
public import Idealize.ShloMosaic.Lib.VecWindow
public import Idealize.ShloMosaic.Lib.Pipeline.FrameBody
public import Idealize.ShloMosaic.Lib.Pipeline.Value

@[expose] public section

noncomputable section

namespace Cert.Proof

open Cert.KernelIdeal Cert.KernelIdeal.Gen Cert.Proof.Hist

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "ℳ" => MT nD τ sig (HIx 2) (Elt F) ℕ UU ℕ

/-- The projected table: the product's rows, and zero rows after them. -/
def tableVal (e : S832x1024.Idx → F .f32) (w : S512x1024.Idx → F .f32) : S896x512.Idx → F .bf16 := fun j =>
  if h : (j 0).val < 832 then k0_pay2 (F := F) e w (fun | 0 => ⟨(j 0).val, h⟩ | 1 => j 1 | ⟨_ + 2, h⟩ => absurd h (Nat.not_lt.2 (Nat.le_add_left _ _)))
  else (Scalar.ofBits .bf16 0x0000#16 : F .bf16)

/-- The layers' output block, from a block of packed counts, the table and the layers' parameters. -/
def layersVal (h : S128x2x8x128.Idx → BitVec 32) (E : S896x512.Idx → F .bf16) (b1 : S1x512.Idx → F .f32) (w2 : S256x512.Idx → F .f32)
    (b2 : S1x256.Idx → F .f32) (w3 : S1x256.Idx → F .f32) (b3 : S1x1.Idx → F .f32) : S1024x1.Idx → F .f32 :=
  k2_pay1 (F := F) (k2_pay4 (F := F) h) (k2_pay5 (F := F) h) (k2_pay6 (F := F) h) (k2_pay7 (F := F) h) (k2_pay9 (F := F) h) (k2_pay10 (F := F) h)
    (k2_pay11 (F := F) h) (k2_pay12) E b1 w2 b2 w3 b3

/-- A whole memref's words, at what they read. -/
theorem owns_all (c : Dev nD) {s : Shape} {e : EltTy} (M : Memref sig .tc .vmem s e) (h : M.IsWhole) (X : s.Idx → Elt F e) :
    (owns (c : Thread nD τ) M fullShare X : sProp ℳ) = iprop(∃ f, ⌜M.view.read (Elt F) f = X⌝ ∗ (M.view.loc (c : Thread nD τ) ↦{fullShare} f)) := by
  unfold owns
  rw [h.set_eq_univ]

/-- A load of all a memref's words reads what the memref reads. -/
theorem load_all {s : Shape} {e : EltTy} (M : Memref sig .tc .vmem s e) (f : M.view.ty.Contents (Elt F)) (X : s.Idx → Elt F e) (h : M.view.read (Elt F) f = X)
    {off : Fin s.rank → ℕ} (inb : ∀ a, off a + s.size a ≤ s.size a) : M.view.readAt (Elt F) (Rect.unit off s.size inb).toLoadRect f = X :=
  (View.readAt_full M.view f inb).trans h

/-- The table's body. -/
theorem table_run (c : Dev nD) (M0 : Memref sig .tc .vmem S832x1024 .f32) (h0 : M0.IsWhole) (M1 : Memref sig .tc .vmem S512x1024 .f32) (h1 : M1.IsWhole)
    (M2 : Memref sig .tc .vmem S896x512 .bf16) (h2 : M2.IsWhole) (X0 : S832x1024.Idx → F .f32) (X1 : S512x1024.Idx → F .f32) (X2 : S896x512.Idx → F .bf16)
    (Q : PUnit → sProp ℳ) :
    iprop(owns (c : Thread nD τ) M0 fullShare X0 ∗ owns (c : Thread nD τ) M1 fullShare X1 ∗ owns (c : Thread nD τ) M2 fullShare X2
        ∗ (iprop(owns (c : Thread nD τ) M0 fullShare X0 ∗ owns (c : Thread nD τ) M1 fullShare X1 ∗ owns (c : Thread nD τ) M2 fullShare (tableVal X0 X1)) -∗ Q ⟨⟩))
      ⊢ wp frame (wpE (defs₀ (F := F)) 𝒱₀ (c : Thread nD τ) none) Set.univ (cc0__e1_body M0 h0 M1 h1 M2 h2) Q := by
  rw [owns_all c M0 h0 X0, owns_all c M1 h1 X1, owns_all c M2 h2 X2, owns_all c M2 h2 (tableVal X0 X1)]
  iintro ⟨⟨%f0, %e0, H0⟩, ⟨%f1, %e1, H1⟩, ⟨%f2, %e2, H2⟩, Hk⟩
  rw [cc0__e1_body_eq_skeleton]
  unfold cc0__e1_body_skel
  sl_exec!
  sl_step
  iapply Hk
  isplitl [H0]
  · iexists f0
    isplitr; · ipureintro; exact e0
    iexact H0
  isplitl [H1]
  · iexists f1
    isplitr; · ipureintro; exact e1
    iexact H1
  iexists _
  isplitr; swap
  · iexact H2
  ipureintro
  unfold table_run.sl.H2_2
  rw [load_all M0 f0 X0 e0 inb_S832x1024_S832x1024_0_0, load_all M1 f1 X1 e1 inb_S512x1024_S512x1024_0_0]
  funext j
  have hj : (j 0).val < 896 := (j 0).isLt
  unfold tableVal
  split
  · next h =>
    refine View.read_writes_cons_unit_of_mem _ _ _ _ _ j _ rfl fun a => ?_
    fin_cases a <;> exact (Nat.zero_add _).symm
  · next h =>
    refine (View.read_writes_cons_unit_of_not_mem _ _ _ _ _ j rfl 0 (.inr (by show 0 + 832 ≤ (j 0).val; omega))).trans ?_
    let x : S64x512.Idx := fun | 0 => ⟨(j 0).val - 832, (by omega : (j 0).val - 832 < 64)⟩ | 1 => j 1 | ⟨_ + 2, h⟩ => absurd h (Nat.not_lt.2 (Nat.le_add_left _ _))
    exact View.read_writes_cons_unit_of_mem _ _ _ _ _ j x rfl fun a => by
        fin_cases a
        · show (j 0).val = 832 + ((j 0).val - 832)
          omega
        · exact (Nat.zero_add _).symm

/-- The layers' body. -/
theorem layers_run (c : Dev nD) (i : grid2.Coords) (M1 : Memref sig .tc .vmem S128x2x8x128 .i32) (h1 : M1.IsWhole) (M2 : Memref sig .tc .vmem S896x512 .bf16)
    (h2 : M2.IsWhole) (M3 : Memref sig .tc .vmem S1x512 .f32) (h3 : M3.IsWhole) (M4 : Memref sig .tc .vmem S256x512 .f32) (h4 : M4.IsWhole)
    (M5 : Memref sig .tc .vmem S1x256 .f32) (h5 : M5.IsWhole) (M6 : Memref sig .tc .vmem S1x256 .f32) (h6 : M6.IsWhole)
    (M7 : Memref sig .tc .vmem S1x1 .f32) (h7 : M7.IsWhole) (M8 : Memref sig .tc .vmem S1024x1 .f32) (h8 : M8.IsWhole)
    (X1 : S128x2x8x128.Idx → BitVec 32) (X2 : S896x512.Idx → F .bf16) (X3 : S1x512.Idx → F .f32) (X4 : S256x512.Idx → F .f32)
    (X5 : S1x256.Idx → F .f32) (X6 : S1x256.Idx → F .f32) (X7 : S1x1.Idx → F .f32) (X8 : S1024x1.Idx → F .f32) (Q : PUnit → sProp ℳ) :
    iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6
        ∗ owns (c : Thread nD τ) M7 fullShare X7 ∗ owns (c : Thread nD τ) M8 fullShare X8
        ∗ (iprop(owns (c : Thread nD τ) M1 fullShare X1 ∗ owns (c : Thread nD τ) M2 fullShare X2 ∗ owns (c : Thread nD τ) M3 fullShare X3
            ∗ owns (c : Thread nD τ) M4 fullShare X4 ∗ owns (c : Thread nD τ) M5 fullShare X5 ∗ owns (c : Thread nD τ) M6 fullShare X6
            ∗ owns (c : Thread nD τ) M7 fullShare X7 ∗ owns (c : Thread nD τ) M8 fullShare (layersVal X1 X2 X3 X4 X5 X6 X7)) -∗ Q ⟨⟩))
      ⊢ wp frame (wpE (defs₀ (F := F)) 𝒱₀ (c : Thread nD τ) none) Set.univ (cc2__mlp_body i M1 h1 M2 h2 M3 h3 M4 h4 M5 h5 M6 h6 M7 h7 M8 h8) Q := by
  rw [owns_all c M1 h1, owns_all c M2 h2, owns_all c M3 h3, owns_all c M4 h4, owns_all c M5 h5, owns_all c M6 h6, owns_all c M7 h7,
    owns_all c M8 h8, owns_all c M8 h8]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, Hk⟩
  rw [cc2__mlp_body_eq_skeleton]
  unfold cc2__mlp_body_skel
  rw [k2_part1_eq_skeleton]
  unfold k2_part1_skel
  sl_exec!
  sl_step
  iapply Hk
  isplitl [H1]
  · iexists f1
    isplitr; · ipureintro; exact e1
    iexact H1
  isplitl [H2]
  · iexists f2
    isplitr; · ipureintro; exact e2
    iexact H2
  isplitl [H3]
  · iexists f3
    isplitr; · ipureintro; exact e3
    iexact H3
  isplitl [H4]
  · iexists f4
    isplitr; · ipureintro; exact e4
    iexact H4
  isplitl [H5]
  · iexists f5
    isplitr; · ipureintro; exact e5
    iexact H5
  isplitl [H6]
  · iexists f6
    isplitr; · ipureintro; exact e6
    iexact H6
  isplitl [H7]
  · iexists f7
    isplitr; · ipureintro; exact e7
    iexact H7
  iexists _
  isplitr; swap
  · iexact H8
  ipureintro
  unfold layers_run.sl.H8_1
  refine (View.read_writes_full _ _ _ _ _).trans ?_
  unfold layersVal
  rw [load_all M1 f1 X1 e1 inb_S128x2x8x128_S128x2x8x128_0_0_0_0,
    load_all M2 f2 X2 e2 inb_S896x512_S896x512_0_0,
    load_all M3 f3 X3 e3 inb_S1x512_S1x512_0_0,
    load_all M4 f4 X4 e4 inb_S256x512_S256x512_0_0,
    load_all M5 f5 X5 e5 inb_S1x256_S1x256_0_0,
    load_all M6 f6 X6 e6 inb_S1x256_S1x256_0_0,
    load_all M7 f7 X7 e7 inb_S1x1_S1x1_0_0]

/-- The second call's body is the first's. -/
theorem layers_again : cc4__mlp_body (F := F) = cc2__mlp_body (F := F) := by
  set_option maxRecDepth 65536 in
  rfl

end Cert.Proof

end
-- ==== Proof.Dats.lean ====
/-
  The three TensorCore pipelines: what each window's staging holds around every body, and that the bodies keep it.
-/
module

public import proofs.«01_k».proof.Proof.Bodies

@[expose] public section

noncomputable section

namespace Cert.Proof

open Cert.KernelIdeal Cert.KernelIdeal.Gen Cert.Proof.Hist

open Idealize.ShloMosaic Idealize.ShloMosaic.TcCoe Idealize.ShloMosaic.Pipeline
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "ℳ" => MT nD τ sig (HIx 2) (Elt F) ℕ UU ℕ

/-- The level units a region's thread owes throughout, and the waits it may have recorded before it. -/
abbrev Owing : Type := CellTallies nD τ sig (HIx 2) × Set (SemLoc sig × HIx 2)

/-- The TensorCore's buffers at a valuation. -/
abbrev at_ (W : Valuation τ sig (Elt F)) (c : Dev nD) (b : Ref sig .tc) : Buf (Elt F) ((c : Thread nD τ).loc b) := W b

/-- The table's pipeline. -/
def tableDat (W : Valuation τ sig (Elt F)) (o : Owing) (c : Dev nD) : Dat τ (Elt F) (HIx 2) ℕ UU ℕ cfg0 c where
  A w := at_ W c (Pipeline.arrRef spec0 w)
  after w t := match w with
    | ⟨0, _⟩ => ((cfg0.win 0).blk t).view.read (Elt F) (at_ W c main_arg1)
    | ⟨1, _⟩ => ((cfg0.win 1).blk t).view.read (Elt F) (at_ W c main_arg2)
    | ⟨2, _⟩ => tableVal (((cfg0.win 0).blk t).view.read (Elt F) (at_ W c main_arg1)) (((cfg0.win 1).blk t).view.read (Elt F) (at_ W c main_arg2))
  Φ _ := Pipeline.scopedRest (Ix := HIx 2) (Name := ℕ) (U := UU) (Lvl := ℕ) (Val := Elt F) spec0 c
  q _ := fullShare
  owed _ := o.1
  recorded _ := o.2

/-- The layers' first pipeline. -/
def layersDat (W : Valuation τ sig (Elt F)) (o : Owing) (c : Dev nD) : Dat τ (Elt F) (HIx 2) ℕ UU ℕ cfg2 c where
  A w := at_ W c (Pipeline.arrRef spec2 w)
  after w t := match w with
    | ⟨0, _⟩ => ((cfg2.win 0).blk t).view.read (Elt F) (at_ W c main_v6)
    | ⟨1, _⟩ => ((cfg2.win 1).blk t).view.read (Elt F) (at_ W c main_v0)
    | ⟨2, _⟩ => ((cfg2.win 2).blk t).view.read (Elt F) (at_ W c main_v1)
    | ⟨3, _⟩ => ((cfg2.win 3).blk t).view.read (Elt F) (at_ W c main_arg4)
    | ⟨4, _⟩ => ((cfg2.win 4).blk t).view.read (Elt F) (at_ W c main_v2)
    | ⟨5, _⟩ => ((cfg2.win 5).blk t).view.read (Elt F) (at_ W c main_arg6)
    | ⟨6, _⟩ => ((cfg2.win 6).blk t).view.read (Elt F) (at_ W c main_v3)
    | ⟨7, _⟩ => layersVal (((cfg2.win 0).blk t).view.read (Elt F) (at_ W c main_v6)) (((cfg2.win 1).blk t).view.read (Elt F) (at_ W c main_v0))
        (((cfg2.win 2).blk t).view.read (Elt F) (at_ W c main_v1)) (((cfg2.win 3).blk t).view.read (Elt F) (at_ W c main_arg4))
        (((cfg2.win 4).blk t).view.read (Elt F) (at_ W c main_v2)) (((cfg2.win 5).blk t).view.read (Elt F) (at_ W c main_arg6))
        (((cfg2.win 6).blk t).view.read (Elt F) (at_ W c main_v3))
  Φ _ := Pipeline.scopedRest (Ix := HIx 2) (Name := ℕ) (U := UU) (Lvl := ℕ) (Val := Elt F) spec2 c
  q _ := fullShare
  owed _ := o.1
  recorded _ := o.2

/-- The layers' second pipeline. -/
def layersDat' (W : Valuation τ sig (Elt F)) (o : Owing) (c : Dev nD) : Dat τ (Elt F) (HIx 2) ℕ UU ℕ cfg4 c where
  A w := at_ W c (Pipeline.arrRef spec4 w)
  after w t := match w with
    | ⟨0, _⟩ => ((cfg4.win 0).blk t).view.read (Elt F) (at_ W c main_v10)
    | ⟨1, _⟩ => ((cfg4.win 1).blk t).view.read (Elt F) (at_ W c main_v0)
    | ⟨2, _⟩ => ((cfg4.win 2).blk t).view.read (Elt F) (at_ W c main_v1)
    | ⟨3, _⟩ => ((cfg4.win 3).blk t).view.read (Elt F) (at_ W c main_arg4)
    | ⟨4, _⟩ => ((cfg4.win 4).blk t).view.read (Elt F) (at_ W c main_v2)
    | ⟨5, _⟩ => ((cfg4.win 5).blk t).view.read (Elt F) (at_ W c main_arg6)
    | ⟨6, _⟩ => ((cfg4.win 6).blk t).view.read (Elt F) (at_ W c main_v3)
    | ⟨7, _⟩ => layersVal (((cfg4.win 0).blk t).view.read (Elt F) (at_ W c main_v10)) (((cfg4.win 1).blk t).view.read (Elt F) (at_ W c main_v0))
        (((cfg4.win 2).blk t).view.read (Elt F) (at_ W c main_v1)) (((cfg4.win 3).blk t).view.read (Elt F) (at_ W c main_arg4))
        (((cfg4.win 4).blk t).view.read (Elt F) (at_ W c main_v2)) (((cfg4.win 5).blk t).view.read (Elt F) (at_ W c main_arg6))
        (((cfg4.win 6).blk t).view.read (Elt F) (at_ W c main_v3))
  Φ _ := Pipeline.scopedRest (Ix := HIx 2) (Name := ℕ) (U := UU) (Lvl := ℕ) (Val := Elt F) spec4 c
  q _ := fullShare
  owed _ := o.1
  recorded _ := o.2

abbrev regAdm : (p : Fin 3) → (pcfgs (F := F) p).Adm := fun p => (cfgs p).toPCfg_adm

/-- The three pipelines at one valuation. -/
def dats (W : Dev nD → Valuation τ sig (Elt F)) (o : Dev nD → Owing) : (p : Fin 3) → (c : Dev nD) → Dat τ (Elt F) (HIx 2) ℕ UU ℕ (Pipeline.pin (pcfgs (F := F)) regAdm p) c
  | ⟨0, _⟩ => fun c => tableDat (W c) (o c) c
  | ⟨1, _⟩ => fun c => layersDat (W c) (o c) c
  | ⟨2, _⟩ => fun c => layersDat' (W c) (o c) c

/-- The table's two inputs hold their blocks when the body runs. -/
theorem table_found (W : Valuation τ sig (Elt F)) (o : Owing) (c : Dev nD) (w : Fin 3) (hw : w ≠ 2) (t : Fin cfg0.N) (d) :
    (tableDat W o c).before w t d = (tableDat W o c).after w t := by
  match w, hw with
  | ⟨0, _⟩, _ => exact (tableDat W o c).before_in_eq_fetched 0 rfl (fun _ => rfl) (fun _ _ _ => rfl) (fun _ => rfl) t d
  | ⟨1, _⟩, _ => exact (tableDat W o c).before_in_eq_fetched 1 rfl (fun _ => rfl) (fun _ _ _ => rfl) (fun _ => rfl) t d
  | ⟨2, _⟩, h => exact absurd rfl h

/-- The program the pipeline runs at a point is the table's body there. -/
theorem table_row (t : Fin cfg0.N) : defs₀ (F := F) .tc cfg0.body (cfg0.bodyArgs t (cfg0.slots t)) = bodyAt0 t := rfl

/-- The table's body keeps its pipeline's account. -/
theorem table_ob (W : Valuation τ sig (Elt F)) (o : Owing) (c : Dev nD) :
    BodyObligation (tableDat W o c) (defs₀ (F := F)) 𝒱₀ none Set.univ := fun t => by
  rw [bigSep_W0, bigSep_W0, table_row]
  rw [show (tableDat W o c).Φ t.succ = (tableDat W o c).Φ t.castSucc from rfl,
    show (tableDat W o c).owesAt none t.succ = (tableDat W o c).owesAt none t.castSucc from rfl]
  simp only [table_found W o c 0 (by decide) t, table_found W o c 1 (by decide) t]
  iintro ⟨HΦ, Howes, ⟨%d0, H0⟩, ⟨%d1, H1⟩, ⟨%d2, H2⟩⟩
  iapply (table_run c (st0_0 t) (hstage0_0 0) (st0_1 t) (hstage0_1 0) (st0_2 t) (hstage0_2 0) ((tableDat W o c).after 0 t) ((tableDat W o c).after 1 t) _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-- The layers' first inputs hold their blocks when the body runs. -/
theorem layers_found (W : Valuation τ sig (Elt F)) (o : Owing) (c : Dev nD) (w : Fin 8) (hw : w ≠ 7) (t : Fin cfg2.N) (d) :
    (layersDat W o c).before w t d = (layersDat W o c).after w t := by
  match w, hw with
  | ⟨0, _⟩, _ => exact (layersDat W o c).before_in_eq_fetched 0 rfl (fun _ => rfl) (fun _ _ _ => rfl) (fun _ => rfl) t d
  | ⟨1, _⟩, _ => exact (layersDat W o c).before_in_eq_fetched 1 rfl (fun _ => rfl) (fun _ _ _ => rfl) (fun _ => rfl) t d
  | ⟨2, _⟩, _ => exact (layersDat W o c).before_in_eq_fetched 2 rfl (fun _ => rfl) (fun _ _ _ => rfl) (fun _ => rfl) t d
  | ⟨3, _⟩, _ => exact (layersDat W o c).before_in_eq_fetched 3 rfl (fun _ => rfl) (fun _ _ _ => rfl) (fun _ => rfl) t d
  | ⟨4, _⟩, _ => exact (layersDat W o c).before_in_eq_fetched 4 rfl (fun _ => rfl) (fun _ _ _ => rfl) (fun _ => rfl) t d
  | ⟨5, _⟩, _ => exact (layersDat W o c).before_in_eq_fetched 5 rfl (fun _ => rfl) (fun _ _ _ => rfl) (fun _ => rfl) t d
  | ⟨6, _⟩, _ => exact (layersDat W o c).before_in_eq_fetched 6 rfl (fun _ => rfl) (fun _ _ _ => rfl) (fun _ => rfl) t d
  | ⟨7, _⟩, h => exact absurd rfl h

/-- The program the pipeline runs at a point is the layers' body there. -/
theorem layers_row (t : Fin cfg2.N) : defs₀ (F := F) .tc cfg2.body (cfg2.bodyArgs t (cfg2.slots t)) = bodyAt2 t := rfl

/-- The layers' body keeps its first pipeline's account. -/
theorem layers_ob (W : Valuation τ sig (Elt F)) (o : Owing) (c : Dev nD) :
    BodyObligation (layersDat W o c) (defs₀ (F := F)) 𝒱₀ none Set.univ := fun t => by
  rw [bigSep_W2, bigSep_W2, layers_row]
  rw [show (layersDat W o c).Φ t.succ = (layersDat W o c).Φ t.castSucc from rfl,
    show (layersDat W o c).owesAt none t.succ = (layersDat W o c).owesAt none t.castSucc from rfl]
  simp only [layers_found W o c 0 (by decide) t, layers_found W o c 1 (by decide) t, layers_found W o c 2 (by decide) t, layers_found W o c 3 (by decide) t, layers_found W o c 4 (by decide) t, layers_found W o c 5 (by decide) t, layers_found W o c 6 (by decide) t]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  iapply (layers_run c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7))
    ((layersDat W o c).after 0 t) ((layersDat W o c).after 1 t) ((layersDat W o c).after 2 t) ((layersDat W o c).after 3 t) ((layersDat W o c).after 4 t) ((layersDat W o c).after 5 t) ((layersDat W o c).after 6 t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The layers' second inputs hold their blocks when the body runs. -/
theorem layers_found' (W : Valuation τ sig (Elt F)) (o : Owing) (c : Dev nD) (w : Fin 8) (hw : w ≠ 7) (t : Fin cfg4.N) (d) :
    (layersDat' W o c).before w t d = (layersDat' W o c).after w t := by
  match w, hw with
  | ⟨0, _⟩, _ => exact (layersDat' W o c).before_in_eq_fetched 0 rfl (fun _ => rfl) (fun _ _ _ => rfl) (fun _ => rfl) t d
  | ⟨1, _⟩, _ => exact (layersDat' W o c).before_in_eq_fetched 1 rfl (fun _ => rfl) (fun _ _ _ => rfl) (fun _ => rfl) t d
  | ⟨2, _⟩, _ => exact (layersDat' W o c).before_in_eq_fetched 2 rfl (fun _ => rfl) (fun _ _ _ => rfl) (fun _ => rfl) t d
  | ⟨3, _⟩, _ => exact (layersDat' W o c).before_in_eq_fetched 3 rfl (fun _ => rfl) (fun _ _ _ => rfl) (fun _ => rfl) t d
  | ⟨4, _⟩, _ => exact (layersDat' W o c).before_in_eq_fetched 4 rfl (fun _ => rfl) (fun _ _ _ => rfl) (fun _ => rfl) t d
  | ⟨5, _⟩, _ => exact (layersDat' W o c).before_in_eq_fetched 5 rfl (fun _ => rfl) (fun _ _ _ => rfl) (fun _ => rfl) t d
  | ⟨6, _⟩, _ => exact (layersDat' W o c).before_in_eq_fetched 6 rfl (fun _ => rfl) (fun _ _ _ => rfl) (fun _ => rfl) t d
  | ⟨7, _⟩, h => exact absurd rfl h

/-- The program the pipeline runs at a point is the layers' body there. -/
theorem layers_row' (t : Fin cfg4.N) : defs₀ (F := F) .tc cfg4.body (cfg4.bodyArgs t (cfg4.slots t)) = bodyAt4 t := rfl

/-- The layers' body keeps its second pipeline's account. -/
theorem layers_ob' (W : Valuation τ sig (Elt F)) (o : Owing) (c : Dev nD) :
    BodyObligation (layersDat' W o c) (defs₀ (F := F)) 𝒱₀ none Set.univ := fun t => by
  rw [bigSep_W4, bigSep_W4, layers_row']
  rw [show (layersDat' W o c).Φ t.succ = (layersDat' W o c).Φ t.castSucc from rfl,
    show (layersDat' W o c).owesAt none t.succ = (layersDat' W o c).owesAt none t.castSucc from rfl]
  simp only [layers_found' W o c 0 (by decide) t, layers_found' W o c 1 (by decide) t, layers_found' W o c 2 (by decide) t, layers_found' W o c 3 (by decide) t, layers_found' W o c 4 (by decide) t, layers_found' W o c 5 (by decide) t, layers_found' W o c 6 (by decide) t]
  unfold bodyAt4
  rw [layers_again]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  iapply (layers_run c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7))
    ((layersDat' W o c).after 0 t) ((layersDat' W o c).after 1 t) ((layersDat' W o c).after 2 t) ((layersDat' W o c).after 3 t) ((layersDat' W o c).after 4 t) ((layersDat' W o c).after 5 t) ((layersDat' W o c).after 6 t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Proof

end
-- ==== Proof.Arrays.lean ====
/-
  The arrays the TensorCore pipelines leave.
-/
module

public import proofs.«01_k».proof.Proof.Dats
public import Idealize.ShloMosaic.Lib.Pipeline.ValueKit.Geometry
public import Idealize.ShloMosaic.Lib.Pipeline.ValueKit.Point

@[expose] public section

noncomputable section

namespace Cert.Proof

open Cert.KernelIdeal Cert.KernelIdeal.Gen Cert.Proof.Hist

open Idealize.ShloMosaic Idealize.ShloMosaic.TcCoe Idealize.ShloMosaic.Pipeline
open Idealize.ShloMosaic.SparseCore.Cfg (HIx)
open Idealize.SL Idealize.SL.RA

variable {F : FTy → Type} [FloatOps F]

/-- A row of packed counts, taken from its block. -/
def rowAt (t : ℕ) (y : S128x2x8x128.Idx) (h : t < 8) : S1024x2x8x128.Idx
  | 0 => ⟨128 * t + (y 0).val, by have : (y 0).val < 128 := (y 0).isLt; show 128 * t + (y 0).val < 1024; omega⟩
  | 1 => y 1
  | 2 => y 2
  | 3 => y 3
  | ⟨_ + 4, h⟩ => absurd h (Nat.not_lt.2 (Nat.le_add_left _ _))

theorem rowAt_congr {n t : ℕ} (h : n = t) (y : S128x2x8x128.Idx) (hn : n < 8) (ht : t < 8) : rowAt n y hn = rowAt t y ht := by
  subst h; rfl

/-- A row within its block. -/
def rowIn (r : ℕ) : S1024x1.Idx
  | 0 => ⟨r % 1024, Nat.mod_lt _ (by decide)⟩
  | 1 => (0 : Fin 1)
  | ⟨_ + 2, h⟩ => absurd h (Nat.not_lt.2 (Nat.le_add_left _ _))

/-- The layers' output over a chunk, block by block. -/
def outVal (H : S1024x2x8x128.Idx → BitVec 32) (E : S896x512.Idx → F .bf16) (b1 : S1x512.Idx → F .f32) (w2 : S256x512.Idx → F .f32)
    (b2 : S1x256.Idx → F .f32) (w3 : S1x256.Idx → F .f32) (b3 : S1x1.Idx → F .f32) : S8192x1.Idx → F .f32 := fun j =>
  layersVal (fun y => H (rowAt ((j 0).val / 1024) y (Nat.div_lt_of_lt_mul (j 0).isLt))) E b1 w2 b2 w3 b3 (rowIn (j 0).val)

section Finals

variable (W : Valuation τ sig (Elt F)) (o : Owing) (c : Dev nD)

theorem still0_0 : ∀ (t : Fin grid0.N) (a : Fin 2), win0_0.index t a = 0 := by decide +kernel
theorem still0_1 : ∀ (t : Fin grid0.N) (a : Fin 2), win0_1.index t a = 0 := by decide +kernel
theorem still0_2 : ∀ (t : Fin grid0.N) (a : Fin 2), win0_2.index t a = 0 := by decide +kernel

/-- The table's pipeline leaves the projected table. -/
theorem table_final : (tableDat W o c).arrAt 2 cfg0.N = tableVal (F := F) (at_ W c main_arg1) (at_ W c main_arg2) := by
  refine (tableDat W o c).arrAt_eq_of_covers 2 _ (by decide +kernel) fun t hf y => ?_
  have e0 : ((cfg0.win 0).blk t).view.read (Elt F) (at_ W c main_arg1) = at_ W c main_arg1 := by blk_ext! [still0_0 t]
  have e1 : ((cfg0.win 1).blk t).view.read (Elt F) (at_ W c main_arg2) = at_ W c main_arg2 := by blk_ext! [still0_1 t]
  have ey : ((cfg0.win 2).blk t).view.emb y = y := by blk_ext [still0_2 t]
  rw [ey]
  show tableVal _ _ _ = _
  rw [e0, e1]

theorem still2_1 : ∀ (t : Fin grid2.N) (a : Fin 2), win2_1.index t a = 0 := by decide +kernel
theorem still2_2 : ∀ (t : Fin grid2.N) (a : Fin 2), win2_2.index t a = 0 := by decide +kernel
theorem still2_3 : ∀ (t : Fin grid2.N) (a : Fin 2), win2_3.index t a = 0 := by decide +kernel
theorem still2_4 : ∀ (t : Fin grid2.N) (a : Fin 2), win2_4.index t a = 0 := by decide +kernel
theorem still2_5 : ∀ (t : Fin grid2.N) (a : Fin 2), win2_5.index t a = 0 := by decide +kernel
theorem still2_6 : ∀ (t : Fin grid2.N) (a : Fin 2), win2_6.index t a = 0 := by decide +kernel
theorem move2_0 : ∀ t : Fin grid2.N, win2_0.index t = ![t.val, 0, 0, 0] := by decide +kernel
theorem move2_7 : ∀ t : Fin grid2.N, win2_7.index t = ![t.val, 0] := by decide +kernel

/-- The layers' first pipeline leaves the layers of its chunk's counts. -/
theorem layers_final : (layersDat W o c).arrAt 7 cfg2.N = outVal (F := F) (at_ W c main_v6) (at_ W c main_v0) (at_ W c main_v1) (at_ W c main_arg4) (at_ W c main_v2) (at_ W c main_arg6) (at_ W c main_v3) := by
  refine (layersDat W o c).arrAt_eq_of_covers 7 _ (by decide +kernel) fun t hf y => ?_
  have e1 : ((cfg2.win 1).blk t).view.read (Elt F) (at_ W c main_v0) = at_ W c main_v0 := by blk_ext! [still2_1 t]
  have e2 : ((cfg2.win 2).blk t).view.read (Elt F) (at_ W c main_v1) = at_ W c main_v1 := by blk_ext! [still2_2 t]
  have e3 : ((cfg2.win 3).blk t).view.read (Elt F) (at_ W c main_arg4) = at_ W c main_arg4 := by blk_ext! [still2_3 t]
  have e4 : ((cfg2.win 4).blk t).view.read (Elt F) (at_ W c main_v2) = at_ W c main_v2 := by blk_ext! [still2_4 t]
  have e5 : ((cfg2.win 5).blk t).view.read (Elt F) (at_ W c main_arg6) = at_ W c main_arg6 := by blk_ext! [still2_5 t]
  have e6 : ((cfg2.win 6).blk t).view.read (Elt F) (at_ W c main_v3) = at_ W c main_v3 := by blk_ext! [still2_6 t]
  blk_simp
  have ey : (((win2_7.blk t).view.emb y) 0).val = t.val * 1024 + (y 0).val := by blk_simp [move2_7 t]
  have hy : (y 0).val < 1024 := (y 0).isLt
  have hd : (((win2_7.blk t).view.emb y) 0).val / 1024 = t.val := by rw [ey]; omega
  have hm : (((win2_7.blk t).view.emb y) 0).val % 1024 = (y 0).val := by rw [ey]; omega
  have e0 : ((cfg2.win 0).blk t).view.read (Elt F) (at_ W c main_v6)
      = fun x => (at_ W c main_v6 : S1024x2x8x128.Idx → BitVec 32) (rowAt ((((win2_7.blk t).view.emb y) 0).val / 1024) x (Nat.div_lt_of_lt_mul (((win2_7.blk t).view.emb y) 0).isLt)) := by
    funext x
    rw [View.read_apply]
    show (at_ W c main_v6 : S1024x2x8x128.Idx → BitVec 32) _ = (at_ W c main_v6 : S1024x2x8x128.Idx → BitVec 32) _
    congr 1
    have ht : t.val < 8 := t.isLt
    rw [rowAt_congr hd x _ ht]
    blk_ext [move2_0 t]
    · show t.val * 128 + (x 0).val = 128 * t.val + (x 0).val
      omega
    all_goals rfl
  show layersVal _ _ _ _ _ _ _ _ = layersVal _ _ _ _ _ _ _ _
  rw [e0, e1, e2, e3, e4, e5, e6]
  refine congrArg _ ?_
  funext a
  fin_cases a
  · exact Fin.ext hm.symm
  · exact Subsingleton.elim (α := Fin 1) _ _

theorem still4_1 : ∀ (t : Fin grid4.N) (a : Fin 2), win4_1.index t a = 0 := by decide +kernel
theorem still4_2 : ∀ (t : Fin grid4.N) (a : Fin 2), win4_2.index t a = 0 := by decide +kernel
theorem still4_3 : ∀ (t : Fin grid4.N) (a : Fin 2), win4_3.index t a = 0 := by decide +kernel
theorem still4_4 : ∀ (t : Fin grid4.N) (a : Fin 2), win4_4.index t a = 0 := by decide +kernel
theorem still4_5 : ∀ (t : Fin grid4.N) (a : Fin 2), win4_5.index t a = 0 := by decide +kernel
theorem still4_6 : ∀ (t : Fin grid4.N) (a : Fin 2), win4_6.index t a = 0 := by decide +kernel
theorem move4_0 : ∀ t : Fin grid4.N, win4_0.index t = ![t.val, 0, 0, 0] := by decide +kernel
theorem move4_7 : ∀ t : Fin grid4.N, win4_7.index t = ![t.val, 0] := by decide +kernel

/-- The layers' second pipeline leaves the layers of its chunk's counts. -/
theorem layers_final' : (layersDat' W o c).arrAt 7 cfg4.N = outVal (F := F) (at_ W c main_v10) (at_ W c main_v0) (at_ W c main_v1) (at_ W c main_arg4) (at_ W c main_v2) (at_ W c main_arg6) (at_ W c main_v3) := by
  refine (layersDat' W o c).arrAt_eq_of_covers 7 _ (by decide +kernel) fun t hf y => ?_
  have e1 : ((cfg4.win 1).blk t).view.read (Elt F) (at_ W c main_v0) = at_ W c main_v0 := by blk_ext! [still4_1 t]
  have e2 : ((cfg4.win 2).blk t).view.read (Elt F) (at_ W c main_v1) = at_ W c main_v1 := by blk_ext! [still4_2 t]
  have e3 : ((cfg4.win 3).blk t).view.read (Elt F) (at_ W c main_arg4) = at_ W c main_arg4 := by blk_ext! [still4_3 t]
  have e4 : ((cfg4.win 4).blk t).view.read (Elt F) (at_ W c main_v2) = at_ W c main_v2 := by blk_ext! [still4_4 t]
  have e5 : ((cfg4.win 5).blk t).view.read (Elt F) (at_ W c main_arg6) = at_ W c main_arg6 := by blk_ext! [still4_5 t]
  have e6 : ((cfg4.win 6).blk t).view.read (Elt F) (at_ W c main_v3) = at_ W c main_v3 := by blk_ext! [still4_6 t]
  blk_simp
  have ey : (((win4_7.blk t).view.emb y) 0).val = t.val * 1024 + (y 0).val := by blk_simp [move4_7 t]
  have hy : (y 0).val < 1024 := (y 0).isLt
  have hd : (((win4_7.blk t).view.emb y) 0).val / 1024 = t.val := by rw [ey]; omega
  have hm : (((win4_7.blk t).view.emb y) 0).val % 1024 = (y 0).val := by rw [ey]; omega
  have e0 : ((cfg4.win 0).blk t).view.read (Elt F) (at_ W c main_v10)
      = fun x => (at_ W c main_v10 : S1024x2x8x128.Idx → BitVec 32) (rowAt ((((win4_7.blk t).view.emb y) 0).val / 1024) x (Nat.div_lt_of_lt_mul (((win4_7.blk t).view.emb y) 0).isLt)) := by
    funext x
    rw [View.read_apply]
    show (at_ W c main_v10 : S1024x2x8x128.Idx → BitVec 32) _ = (at_ W c main_v10 : S1024x2x8x128.Idx → BitVec 32) _
    congr 1
    have ht : t.val < 8 := t.isLt
    rw [rowAt_congr hd x _ ht]
    blk_ext [move4_0 t]
    · show t.val * 128 + (x 0).val = 128 * t.val + (x 0).val
      omega
    all_goals rfl
  show layersVal _ _ _ _ _ _ _ _ = layersVal _ _ _ _ _ _ _ _
  rw [e0, e1, e2, e3, e4, e5, e6]
  refine congrArg _ ?_
  funext a
  fin_cases a
  · exact Fin.ext hm.symm
  · exact Subsingleton.elim (α := Fin 1) _ _

end Finals

end Cert.Proof

end
-- ==== Proof.Regions.lean ====
/-
  The three TensorCore regions, each entered from the thread's state and left at it.
-/
module

public import proofs.«01_k».proof.Proof.Arrays

@[expose] public section

noncomputable section

namespace Cert.Proof

open Cert.KernelIdeal Cert.KernelIdeal.Gen Cert.Proof.Hist

open Idealize.ShloMosaic Idealize.ShloMosaic.TcCoe Idealize.ShloMosaic.Pipeline
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "ℳ" => MT nD τ sig (HIx 2) (Elt F) ℕ UU ℕ

/-- What a TensorCore owes before SparseCore call `n`, its waits recorded at or below level `b`. -/
def owing (n b : ℕ) (d : Dev nD) : Owing := ((K (F := F)).Otc d n, {p | (K (F := F)).lev (T d, p.1) p.2 ≤ b})

/-- The part of the thread's state a region passes through its loop. -/
def owesBelow (n b : ℕ) (d : Dev nD) : sProp ℳ :=
  iprop(∃ Wt, ⌜(K (F := F)).WBelow (T d) Wt b⌝ ∗ owes (T d) ((K (F := F)).Otc d n) Wt)

/-- A body's obligation, at any of the three pipelines. -/
theorem dats_ob (W : Dev nD → Valuation τ sig (Elt F)) (o : Dev nD → Owing) (p : Fin 3) (c : Dev nD) :
    BodyObligation (dats W o p c) (defs₀ (F := F)) 𝒱₀ none Set.univ := by
  match p with
  | ⟨0, _⟩ => exact table_ob (W c) (o c) c
  | ⟨1, _⟩ => exact layers_ob (W c) (o c) c
  | ⟨2, _⟩ => exact layers_ob' (W c) (o c) c

theorem dats_q (W : Dev nD → Valuation τ sig (Elt F)) (o : Dev nD → Owing) (p : Fin 3) (c : Dev nD) (w) : (dats W o p c).q w = fullShare := by
  match p with
  | ⟨0, _⟩ => rfl
  | ⟨1, _⟩ => rfl
  | ⟨2, _⟩ => rfl

theorem rest0 (c : Dev nD) : (Pipeline.scopedRest (Ix := HIx 2) (Name := ℕ) (U := UU) (Lvl := ℕ) (Val := Elt F) spec0 c : sProp ℳ)
    = Pipeline.scopedRest (pcfgs (F := F) 0).spec c := rfl
theorem rest2 (c : Dev nD) : (Pipeline.scopedRest (Ix := HIx 2) (Name := ℕ) (U := UU) (Lvl := ℕ) (Val := Elt F) spec2 c : sProp ℳ)
    = Pipeline.scopedRest (pcfgs (F := F) 1).spec c := rfl
theorem rest4 (c : Dev nD) : (Pipeline.scopedRest (Ix := HIx 2) (Name := ℕ) (U := UU) (Lvl := ℕ) (Val := Elt F) spec4 c : sProp ℳ)
    = Pipeline.scopedRest (pcfgs (F := F) 2).spec c := rfl

theorem dats_Φ (W : Dev nD → Valuation τ sig (Elt F)) (o : Dev nD → Owing) (p : Fin 3) (c : Dev nD) (t) :
    (dats W o p c).Φ t = (Pipeline.scopedRest (pcfgs (F := F) p).spec c : sProp ℳ) := by
  match p with
  | ⟨0, _⟩ => exact rest0 c
  | ⟨1, _⟩ => exact rest2 c
  | ⟨2, _⟩ => exact rest4 c

theorem dats_owed (W : Dev nD → Valuation τ sig (Elt F)) (o : Dev nD → Owing) (p : Fin 3) (c : Dev nD) (t) : (dats W o p c).owed t = (o c).1 := by
  match p with
  | ⟨0, _⟩ => rfl
  | ⟨1, _⟩ => rfl
  | ⟨2, _⟩ => rfl

theorem dats_recorded (W : Dev nD → Valuation τ sig (Elt F)) (o : Dev nD → Owing) (p : Fin 3) (c : Dev nD) (t) : (dats W o p c).recorded t = (o c).2 := by
  match p with
  | ⟨0, _⟩ => rfl
  | ⟨1, _⟩ => rfl
  | ⟨2, _⟩ => rfl

theorem dats_launch (p : Fin 3) : Pipeline.LaunchFacts (nD := nD) (τ := τ) cfgs p := by
  match p with
  | ⟨0, _⟩ => exact launch0
  | ⟨1, _⟩ => exact launch2
  | ⟨2, _⟩ => exact launch4

/-- The thread's state enters a pipeline's loop, and comes back from it. -/
theorem owes_in (W : Dev nD → Valuation τ sig (Elt F)) (n b : ℕ) (p : Fin 3) (c : Dev nD) (t) :
    owesBelow (F := F) n b c ⊢ (dats W (owing (F := F) n b) p c).owesAt none t := by
  unfold Pipeline.Dat.owesAt Pipeline.owesWithin Pipeline.Dat.bound owesBelow
  rw [dats_owed, dats_recorded]
  iintro ⟨%Wt, %h, HO⟩
  iexists Wt
  isplitr
  · ipureintro
    exact fun x hx => Or.inl (h x hx)
  iexact HO

theorem owes_out (W : Dev nD → Valuation τ sig (Elt F)) (n b : ℕ) (p : Fin 3) (c : Dev nD) (t) :
    (dats W (owing (F := F) n b) p c).owesAt none t ⊢ owesBelow (F := F) n b c := by
  unfold Pipeline.Dat.owesAt Pipeline.owesWithin Pipeline.Dat.bound owesBelow
  rw [dats_owed, dats_recorded]
  iintro ⟨%Wt, %h, HO⟩
  iexists Wt
  isplitr
  · ipureintro
    intro x hx
    rcases h hx with h | ⟨w, s, h⟩
    · exact h
    · rw [h]; exact Nat.zero_le _
  iexact HO

/-- The TensorCore owes nothing at the pipelines' own index. -/
theorem Otc_at_none (d : Dev nD) (n : ℕ) (g : GSem nD τ sig) : (K (F := F)).Otc (N := 2) d n g none = 0 := by
  by_contra h
  have := SparseCore.Cfg.lev_of_Otc_pos (K := K (F := F)) (Nat.pos_of_ne_zero h)
  rw [SparseCore.Cfg.lev_none] at this
  omega

set_option backward.isDefEq.respectTransparency.types false in
/-- One region: it takes the TensorCore's buffers from one valuation to the next. -/
def region (p : Fin 3) (W W' : Dev nD → Valuation τ sig (Elt F)) (n b : ℕ)
    (hA : ∀ c w, (dats W (owing (F := F) n b) p c).A w = at_ (W c) c (Pipeline.arrRef (pcfgs (F := F) p).spec w))
    (hout : ∀ c w, (dats W (owing (F := F) n b) p c).arrAt w (Pipeline.pin (pcfgs (F := F)) regAdm p).N = at_ (W' c) c (Pipeline.arrRef (pcfgs (F := F) p).spec w))
    (hrest : ∀ (c : Dev nD) (r : Ref sig .tc), r ∉ Finset.univ.image (Pipeline.arrRef (pcfgs (F := F) p).spec) → at_ (W' c) c r = at_ (W c) c r) :
    Pipeline.RegionSeg (pcfgs (F := F)) regAdm (dats W (owing (F := F) n b)) none defs₀ 𝒱₀ (K (F := F)).L (K (F := F)).lev p where
  win := (dats_launch p).win.to₀
  block_pos := (dats_launch p).block_pos
  stage_whole := (dats_launch p).stage_whole
  K := PEmpty
  osem k := k.elim
  ho := Pipeline.OwnSemFacts.none _
  hbody c := (dats_ob W (owing n b) p c).loose
  hwaits c := Pipeline.cellsWaits_intro _ _ _ _ _ fun w s t => by
    rw [dats_owed]
    exact (K (F := F)).mayWait_none _ fun g => Otc_at_none c n g
  pre c := iprop(unscopedBufs c (at_ (W c) c) ∗ owesBelow (F := F) n b c)
  post c := iprop(unscopedBufs c (at_ (W' c) c) ∗ owesBelow (F := F) n b c)
  X _ := BI.emp
  Y _ := BI.emp
  Z c := Pipeline.unscopedRest (Ix := HIx 2) (Name := ℕ) (U := UU) (Lvl := ℕ) (pcfgs (F := F) p).spec c (at_ (W c) c)
  hentry c := by
    rw [Pipeline.ownSems0_none]
    have hsplit := Pipeline.arrays_of_unscopedBufs (p := p) (pcfgs (F := F)) regAdm (dats W (owing (F := F) n b)) (dats_launch p).win
      (dats_launch p).arr_whole c ((dats W (owing (F := F) n b) p c).share_full (dats_q W (owing n b) p c)) (at_ (W c) c) (hA c)
    iintro ⟨⟨Hub, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]; · iapply (owes_in W n b p c 0); iexact HO
    isplitr; · iempintro
    iexact Hrest
  hin c := by
    rw [dats_Φ]
    iintro ⟨-, -, Hr⟩; iexact Hr
  hout c := by
    rw [Pipeline.ownSems0_none, dats_Φ]
    iintro Hr
    isplitr; · iempintro
    isplitr; · iempintro
    iexact Hr
  hexit c := by
    have hjoin := Pipeline.unscopedBufs_of_arrays (p := p) (pcfgs (F := F)) regAdm (Ix := HIx 2) (Name := ℕ) (U := UU) (Lvl := ℕ) (dats_launch p).win
      (dats_launch p).arr_whole c (dats W (owing (F := F) n b)) ((dats W (owing (F := F) n b) p c).share_full (dats_q W (owing n b) p c))
      (at_ (W c) c) (at_ (W' c) c) ((dats W (owing (F := F) n b) p c).arrAt · (Pipeline.pin (pcfgs (F := F)) regAdm p).N) (hout c) (hrest c)
    iintro ⟨Ha, HO, -, Hrest⟩
    imodintro
    isplitl [Ha Hrest]
    · iapply hjoin; isplitl [Ha] <;> iassumption
    iapply (owes_out W n b p c _); iexact HO

end Cert.Proof

end
-- ==== Proof.Steps.lean ====
/-
  One statement of the program at a time: a host operation, a TensorCore region, and a SparseCore call, each
  taking the TensorCore's buffers from one valuation to the next.
-/
module

public import proofs.«01_k».proof.Proof.Regions
public import proofs.«01_k».proof.Proof.Deal

@[expose] public section

noncomputable section

namespace Cert.Proof

open Cert.KernelIdeal Cert.KernelIdeal.Gen Cert.Proof.Hist

open Idealize.ShloMosaic Idealize.ShloMosaic.TcCoe Idealize.ShloMosaic.Pipeline
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "ℳ" => MT nD τ sig (HIx 2) (Elt F) ℕ UU ℕ

/-! ## Valuations -/

/-- A valuation with one buffer replaced. -/
def put (W : Valuation τ sig (Elt F)) (b : Ref sig .tc) (v : b.ty.Contents (Elt F)) : Valuation τ sig (Elt F) :=
  Function.update W (Proc.devRef .tc b) v

theorem put_same (W : Valuation τ sig (Elt F)) (b : Ref sig .tc) (v : b.ty.Contents (Elt F)) : put W b v (Proc.devRef .tc b) = v :=
  Function.update_self ..

theorem put_ne (W : Valuation τ sig (Elt F)) (b : Ref sig .tc) (v : b.ty.Contents (Elt F)) {r : Ref sig .tc} (h : r ≠ b) :
    put W b v (Proc.devRef .tc r) = W (Proc.devRef .tc r) :=
  Function.update_of_ne (fun e => h (Proc.devRef_injective _ e)) ..

/-! ## The TensorCore's state between two statements -/

/-- Before SparseCore call `n`: the region boundary, the buffers at a valuation, and the launch's own state. -/
def St (d : Dev nD) (n : ℕ) (W : Valuation τ sig (Elt F)) : sProp ℳ :=
  iprop(boundary (T d) ∗ unscopedBufs d (at_ W d) ∗ (K (F := F)).tcSt EH d n)

theorem bufs_held (d : Dev nD) (W : Valuation τ sig (Elt F)) :
    (unscopedBufs d (at_ W d) : sProp ℳ) = StableHlo.held (T d) (Pipeline.ucRefs τ sig) W := Pipeline.unscopedBufs_held d W

/-- A host operation. -/
theorem host_step (d : Dev nD) (n : ℕ) (W : Valuation τ sig (Elt F)) (op : HloOp τ sig (Elt F)) (hs : op.bufs ⊆ StableHlo.tcRefs τ sig)
    (hf : op.fresh = ∅) (Φ : PUnit → sProp ℳ) :
    iprop(St d n W ∗ (St d n (op.result W) -∗ Φ ⟨⟩))
      ⊢ wp Idealize.ShloMosaic.frame (wpE ((K (F := F)).defs (D (F := F))) 𝒱 (T d) none) Set.univ (hlo rfl op (fun _ => .ret ⟨⟩)) Φ := by
  unfold St
  rw [bufs_held, bufs_held]
  iintro ⟨⟨Hb, Hh, Hst⟩, Hk⟩
  iapply (StableHlo.wp_hlo_within 𝒱 (T d) none Set.univ (Pipeline.sub_ucRefs op hs) (V := W) hf) $$ [Hb Hh]
  · isplitl [Hb] <;> iassumption
  iintro ⟨Hb, Hh⟩
  rw [wp_ret]
  imodintro
  iapply Hk
  isplitl [Hb]; · iexact Hb
  isplitl [Hh]; · iexact Hh
  iexact Hst

/-! ## A TensorCore region -/

/-- The ghost state one pipeline's loop starts from. -/
def seed (p : Fin 3) (d : Dev nD) : sProp ℳ :=
  iprop(Pipeline.cellsGhost (Pipeline.pin (pcfgs (F := F)) regAdm) EP p d ∗ Pipeline.toksInit (Pipeline.pin (pcfgs (F := F)) regAdm) EP p d)

theorem cells_apart : Function.Injective (Pipeline.cellOf (nD := nD) (τ := τ) (Pipeline.pin (pcfgs (F := F)) regAdm)) := cellOf_inj

set_option backward.isDefEq.respectTransparency.types false in
theorem region_step [∀ e, Nonempty (Elt F e)] (d : Dev nD) (n : ℕ) (p : Fin 3) (W W' : Dev nD → Valuation τ sig (Elt F))
    (R : Pipeline.RegionSeg (pcfgs (F := F)) regAdm (dats W (owing (F := F) n (8 * (SparseCore.Cfg.Blocks.one 2).fst n))) none defs₀ 𝒱₀ (K (F := F)).L (K (F := F)).lev p)
    (hpre : R.pre d = iprop(unscopedBufs d (at_ (W d) d) ∗ owesBelow (F := F) n (8 * (SparseCore.Cfg.Blocks.one 2).fst n) d))
    (hpost : R.post d = iprop(unscopedBufs d (at_ (W' d) d) ∗ owesBelow (F := F) n (8 * (SparseCore.Cfg.Blocks.one 2).fst n) d))
    (Φ : PUnit → sProp ℳ) :
    iprop(St d n (W d) ∗ seed (F := F) p d ∗ levAts (K (F := F)).L (K (F := F)).lev ∗ (St d n (W' d) -∗ Φ ⟨⟩))
      ⊢ wp Idealize.ShloMosaic.frame (wpE ((K (F := F)).defs (D (F := F))) 𝒱 (T d) none) Set.univ
          (Prog.lift (.customCall (SparseCore.inner (Pipeline.entry p)) ())) Φ := by
  refine BIBase.Entails.trans ?_ ((K (F := F)).wp_liftProg (D (F := F)) 𝒱 (T d) Set.univ none (Prog.lift (.customCall (Pipeline.entry p) ())) Φ)
  refine BIBase.Entails.trans ?_ (Pipeline.RegionSeg.wp (pcfgs (F := F)) regAdm (dats W (owing (F := F) n (8 * (SparseCore.Cfg.Blocks.one 2).fst n))) none cells_apart EP defs₀ 𝒱₀
    (K (F := F)).L (K (F := F)).lev R d none (fun _ h => nomatch h) .ret Φ)
  rw [hpre, hpost, wp_ret]
  unfold St seed SparseCore.Cfg.tcSt owesBelow
  iintro ⟨⟨Hb, Hu, HO, Hst⟩, ⟨Hg, Ht⟩, Hl, Hk⟩
  isplitl [Hk Hst]
  · iintro ⟨Hb, Hu, HO⟩
    imodintro
    iapply Hk
    isplitl [Hb]; · iexact Hb
    isplitl [Hu]; · iexact Hu
    isplitl [HO]; · iexact HO
    iexact Hst
  isplitl [Hb]; · iexact Hb
  isplitl [Hu HO]
  · isplitl [Hu]; · iexact Hu
    iexact HO
  isplitl [Hl]; · iexact Hl
  isplitl [Hg]; · iexact Hg
  iexact Ht

/-! ## A SparseCore call -/

/-- Two buffers of the TensorCore's, of all it has. -/
theorem two_bufs (d : Dev nD) (x o : Ref sig .tc) (hx : ¬ x.isScoped) (ho : ¬ o.isScoped) (hox : o ≠ x)
    (W : (b : Ref sig .tc) → Buf (Elt F) ((SparseCore.T d : Thread nD τ).loc b)) :
    (unscopedBufs d W : sProp ℳ) = iprop(((SparseCore.T d : Thread nD τ).loc x ↦{fullShare} W x) ∗ ((SparseCore.T d : Thread nD τ).loc o ↦{fullShare} W o)
      ∗ bigSep (((Finset.univ.filter fun b : Ref sig .tc => ¬ b.isScoped).erase x).erase o) fun b => (SparseCore.T d : Thread nD τ).loc b ↦{fullShare} W b) := by
  unfold unscopedBufs
  refine (SparseCore.bigSep_erase' (Finset.mem_filter.mpr ⟨Finset.mem_univ x, hx⟩)).trans ?_
  rw [SparseCore.bigSep_erase' (Finset.mem_erase.mpr ⟨hox, Finset.mem_filter.mpr ⟨Finset.mem_univ o, ho⟩⟩)]

/-- A call that leaves every buffer but its output as it was. -/
theorem call_step (R : Dev nD → Fin 2 → ℕ → ℕ → BitVec 32) (κ : GSem nD τ sig → ℕ) (d : Dev nD) (q : Fin 2) (W : Valuation τ sig (Elt F))
    (x o : Ref sig .tc) (hx : ¬ x.isScoped) (ho : ¬ o.isScoped) (hox : o ≠ x) (v : o.ty.Contents (Elt F))
    (hin : (iprop(((SparseCore.T d : Thread nD τ).loc x ↦{fullShare} at_ W d x) ∗ ((SparseCore.T d : Thread nD τ).loc o ↦{fullShare} at_ W d o)) : sProp ℳ)
      ⊢ bigSep Finset.univ fun c => (P (F := F) R).st q d c)
    (hback : (bigSep Finset.univ fun c => (P (F := F) R).dn q d c : sProp ℳ)
      ⊢ iprop(((SparseCore.T d : Thread nD τ).loc x ↦{fullShare} at_ W d x) ∗ ((SparseCore.T d : Thread nD τ).loc o ↦{fullShare} (v : Buf (Elt F) ((SparseCore.T d : Thread nD τ).loc o)))))
    (Φ : PUnit → sProp ℳ) :
    iprop((K (F := F)).ctx EH (P (F := F) R) κ ∗ St d q.val W ∗ (St d (q.val + 1) (put W o v) -∗ Φ ⟨⟩))
      ⊢ wp Idealize.ShloMosaic.frame (wpE ((K (F := F)).defs (D (F := F))) 𝒱 (T d) none) Set.univ ((K (F := F)).run d q) Φ := by
  unfold St
  rw [two_bufs d x o hx ho hox, two_bufs d x o hx ho hox (at_ (put W o v) d),
    show at_ (put W o v) d x = at_ W d x from put_ne W o v hox.symm, show at_ (put W o v) d o = v from put_same W o v,
    show (bigSep (((Finset.univ.filter fun b : Ref sig .tc => ¬ b.isScoped).erase x).erase o) fun b => (SparseCore.T d : Thread nD τ).loc b ↦{fullShare} at_ (put W o v) d b : sProp ℳ)
      = bigSep (((Finset.univ.filter fun b : Ref sig .tc => ¬ b.isScoped).erase x).erase o) fun b => (SparseCore.T d : Thread nD τ).loc b ↦{fullShare} at_ W d b from
      bigSep_congr fun b hb => by rw [show at_ (put W o v) d b = at_ W d b from put_ne W o v (Finset.mem_erase.mp hb).1]]
  iintro ⟨Hctx, ⟨Hb, ⟨Hx, Ho, Hrest⟩, Hst⟩, Hk⟩
  iapply ((K (F := F)).wp_run (D (F := F)) 𝒱 (EH := EH) (P := P (F := F) R) κ d q)
  isplitl [Hctx]; · iexact Hctx
  isplitl [Hst]; · iexact Hst
  isplitl [Hx Ho]
  · iapply hin; isplitl [Hx] <;> iassumption
  iintro ⟨Hst, Hdn⟩
  ihave H := hback $$ Hdn
  icases H with ⟨Hx, Ho⟩
  iapply Hk
  isplitl [Hb]; · iexact Hb
  isplitl [Hx Ho Hrest]
  · isplitl [Hx]; · iexact Hx
    isplitl [Ho]; · iexact Ho
    iexact Hrest
  iexact Hst

end Cert.Proof

end
-- ==== Proof.Chain.lean ====
/-
  The program's valuations, statement after statement, and each statement's step between two of them.
-/
module

public import proofs.«01_k».proof.Proof.Steps

@[expose] public section

noncomputable section

namespace Cert.Proof

open Cert.KernelIdeal Cert.KernelIdeal.Gen Cert.Proof.Hist

open Idealize.ShloMosaic Idealize.ShloMosaic.TcCoe Idealize.ShloMosaic.Pipeline
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "ℳ" => MT nD τ sig (HIx 2) (Elt F) ℕ UU ℕ

/-! ## The rows a call counts -/

/-- An entry of the whole array of indices. -/
def cell (r p : ℕ) : S16384x64.Idx
  | 0 => ⟨r % 16384, Nat.mod_lt _ (by decide)⟩
  | 1 => ⟨p % 64, Nat.mod_lt _ (by decide)⟩
  | ⟨_ + 2, h⟩ => absurd h (Nat.not_lt.2 (Nat.le_add_left _ _))

/-- Call `q`'s row `r`. -/
def rowsOf (X : S16384x64.Idx → BitVec 32) (q : Fin 2) (r p : ℕ) : BitVec 32 := X (cell (8192 * q.val + r) p)

theorem slice_first (X : S16384x64.Idx → BitVec 32) :
    extractStridedSlice S8192x64 ![0, 0] X slices_S16384x64_S8192x64_0_0 = fun j : S8192x64.Idx => rowsOf X 0 (j 0).val (j 1).val := by
  funext j
  refine extractStridedSlice_apply _ _ _ _ _ fun a => ?_
  have h0 : (j 0).val < 8192 := (j 0).isLt
  have h1 : (j 1).val < 64 := (j 1).isLt
  match a with
  | ⟨0, _⟩ => show (8192 * 0 + (j 0).val) % 16384 = 0 + (j 0).val; omega
  | ⟨1, _⟩ => show (j 1).val % 64 = 0 + (j 1).val; omega

theorem slice_second (X : S16384x64.Idx → BitVec 32) :
    extractStridedSlice S8192x64 ![8192, 0] X slices_S16384x64_S8192x64_8192_0 = fun j : S8192x64.Idx => rowsOf X 1 (j 0).val (j 1).val := by
  funext j
  refine extractStridedSlice_apply _ _ _ _ _ fun a => ?_
  have h0 : (j 0).val < 8192 := (j 0).isLt
  have h1 : (j 1).val < 64 := (j 1).isLt
  match a with
  | ⟨0, _⟩ => show (8192 * 1 + (j 0).val) % 16384 = 8192 + (j 0).val; omega
  | ⟨1, _⟩ => show (j 1).val % 64 = 0 + (j 1).val; omega

/-- The words a call leaves. -/
def words (X : S16384x64.Idx → BitVec 32) (q : Fin 2) : S2097152.Idx → BitVec 32 := fun j => outWord (rowsOf X q) (j 0).val

/-! ## The host operations -/

abbrev opB1 : HloOp τ sig (Elt F) := StableHlo.reshape main_arg3 main_v1 (rfl : (.f32 : EltTy) = .f32) shapeCasts_S512_S1x512
abbrev opB2 : HloOp τ sig (Elt F) := StableHlo.reshape main_arg5 main_v2 (rfl : (.f32 : EltTy) = .f32) shapeCasts_S256_S1x256
abbrev opB3 : HloOp τ sig (Elt F) := StableHlo.reshape main_arg7 main_v3 (rfl : (.f32 : EltTy) = .f32) shapeCasts_S1_S1x1
abbrev opX0 : HloOp τ sig (Elt F) := StableHlo.unary main_arg0 main_v4 ((extractStridedSlice S8192x64 ![0, 0] · slices_S16384x64_S8192x64_0_0) : (⟨S16384x64, .i32⟩ : BufTy).Contents (Elt F) → (⟨S8192x64, .i32⟩ : BufTy).Contents (Elt F))
abbrev opH0 : HloOp τ sig (Elt F) := StableHlo.reshape main_v5 main_v6 (rfl : (.i32 : EltTy) = .i32) shapeCasts_S2097152_S1024x2x8x128
abbrev opX1 : HloOp τ sig (Elt F) := StableHlo.unary main_arg0 main_v8 ((extractStridedSlice S8192x64 ![8192, 0] · slices_S16384x64_S8192x64_8192_0) : (⟨S16384x64, .i32⟩ : BufTy).Contents (Elt F) → (⟨S8192x64, .i32⟩ : BufTy).Contents (Elt F))
abbrev opH1 : HloOp τ sig (Elt F) := StableHlo.reshape main_v9 main_v10 (rfl : (.i32 : EltTy) = .i32) shapeCasts_S2097152_S1024x2x8x128
abbrev opOut : HloOp τ sig (Elt F) := StableHlo.binary main_v7 main_v11 main_v12 ((fun a b => concatenate S16384x1 0 [⟨S8192x1, a⟩, ⟨S8192x1, b⟩] concatenates_S8192x1_S8192x1_S16384x1_d0) : (⟨S8192x1, .f32⟩ : BufTy).Contents (Elt F) → (⟨S8192x1, .f32⟩ : BufTy).Contents (Elt F) → (⟨S16384x1, .f32⟩ : BufTy).Contents (Elt F))

/-! ## The valuations -/

section Vals

variable (m : (ℓ : Loc nD τ sig) → Buf (Elt F) ℓ)

def W0 (d : Dev nD) : Valuation τ sig (Elt F) := fun b => m (d, b)
def W1 (d : Dev nD) : Valuation τ sig (Elt F) := put (W0 m d) main_v0 (tableVal (F := F) (at_ (W0 m d) d main_arg1) (at_ (W0 m d) d main_arg2))
def W2 (d : Dev nD) : Valuation τ sig (Elt F) := opB1.result (W1 m d)
def W3 (d : Dev nD) : Valuation τ sig (Elt F) := opB2.result (W2 m d)
def W4 (d : Dev nD) : Valuation τ sig (Elt F) := opB3.result (W3 m d)
def W5 (d : Dev nD) : Valuation τ sig (Elt F) := opX0.result (W4 m d)
def W6 (d : Dev nD) : Valuation τ sig (Elt F) := put (W5 m d) main_v5 (words (at_ (W0 m d) d main_arg0) 0)
def W7 (d : Dev nD) : Valuation τ sig (Elt F) := opH0.result (W6 m d)
def W8 (d : Dev nD) : Valuation τ sig (Elt F) :=
  put (W7 m d) main_v7 (outVal (F := F) (at_ (W7 m d) d main_v6) (at_ (W7 m d) d main_v0) (at_ (W7 m d) d main_v1) (at_ (W7 m d) d main_arg4)
    (at_ (W7 m d) d main_v2) (at_ (W7 m d) d main_arg6) (at_ (W7 m d) d main_v3))
def W9 (d : Dev nD) : Valuation τ sig (Elt F) := opX1.result (W8 m d)
def W10 (d : Dev nD) : Valuation τ sig (Elt F) := put (W9 m d) main_v9 (words (at_ (W0 m d) d main_arg0) 1)
def W11 (d : Dev nD) : Valuation τ sig (Elt F) := opH1.result (W10 m d)
def W12 (d : Dev nD) : Valuation τ sig (Elt F) :=
  put (W11 m d) main_v11 (outVal (F := F) (at_ (W11 m d) d main_v10) (at_ (W11 m d) d main_v0) (at_ (W11 m d) d main_v1) (at_ (W11 m d) d main_arg4)
    (at_ (W11 m d) d main_v2) (at_ (W11 m d) d main_arg6) (at_ (W11 m d) d main_v3))
def W13 (d : Dev nD) : Valuation τ sig (Elt F) := opOut.result (W12 m d)

/-- What each statement leaves alone. -/
theorem keep1 (d : Dev nD) {r : Ref sig .tc} (h : r ≠ main_v0) : W1 m d (Proc.devRef .tc r) = W0 m d (Proc.devRef .tc r) := put_ne _ _ _ h
theorem keep2 (d : Dev nD) {r : Ref sig .tc} (h : r ≠ main_v1) : W2 m d (Proc.devRef .tc r) = W1 m d (Proc.devRef .tc r) := StableHlo.reshape_result_ne (h := h) ..
theorem keep3 (d : Dev nD) {r : Ref sig .tc} (h : r ≠ main_v2) : W3 m d (Proc.devRef .tc r) = W2 m d (Proc.devRef .tc r) := StableHlo.reshape_result_ne (h := h) ..
theorem keep4 (d : Dev nD) {r : Ref sig .tc} (h : r ≠ main_v3) : W4 m d (Proc.devRef .tc r) = W3 m d (Proc.devRef .tc r) := StableHlo.reshape_result_ne (h := h) ..
theorem keep5 (d : Dev nD) {r : Ref sig .tc} (h : r ≠ main_v4) : W5 m d (Proc.devRef .tc r) = W4 m d (Proc.devRef .tc r) := StableHlo.unary_result_ne (h := h) ..
theorem keep6 (d : Dev nD) {r : Ref sig .tc} (h : r ≠ main_v5) : W6 m d (Proc.devRef .tc r) = W5 m d (Proc.devRef .tc r) := put_ne _ _ _ h
theorem keep7 (d : Dev nD) {r : Ref sig .tc} (h : r ≠ main_v6) : W7 m d (Proc.devRef .tc r) = W6 m d (Proc.devRef .tc r) := StableHlo.reshape_result_ne (h := h) ..
theorem keep8 (d : Dev nD) {r : Ref sig .tc} (h : r ≠ main_v7) : W8 m d (Proc.devRef .tc r) = W7 m d (Proc.devRef .tc r) := put_ne _ _ _ h
theorem keep9 (d : Dev nD) {r : Ref sig .tc} (h : r ≠ main_v8) : W9 m d (Proc.devRef .tc r) = W8 m d (Proc.devRef .tc r) := StableHlo.unary_result_ne (h := h) ..
theorem keep10 (d : Dev nD) {r : Ref sig .tc} (h : r ≠ main_v9) : W10 m d (Proc.devRef .tc r) = W9 m d (Proc.devRef .tc r) := put_ne _ _ _ h
theorem keep11 (d : Dev nD) {r : Ref sig .tc} (h : r ≠ main_v10) : W11 m d (Proc.devRef .tc r) = W10 m d (Proc.devRef .tc r) := StableHlo.reshape_result_ne (h := h) ..
theorem keep12 (d : Dev nD) {r : Ref sig .tc} (h : r ≠ main_v11) : W12 m d (Proc.devRef .tc r) = W11 m d (Proc.devRef .tc r) := put_ne _ _ _ h
theorem keep13 (d : Dev nD) {r : Ref sig .tc} (h : r ≠ main_v12) : W13 m d (Proc.devRef .tc r) = W12 m d (Proc.devRef .tc r) := StableHlo.binary_result_ne (h := h) ..

/-- The rows of the first call, in place. -/
theorem rows_first (d : Dev nD) : at_ (W5 m d) d main_v4 = fun j : S8192x64.Idx => rowsOf (at_ (W0 m d) d main_arg0) 0 (j 0).val (j 1).val := by
  refine (StableHlo.unary_result _ _ _ _ _ (W4 m d)).trans ?_
  refine (slice_first _).trans ?_
  rw [keep4 m d (r := main_arg0) (by decide), keep3 m d (r := main_arg0) (by decide), keep2 m d (r := main_arg0) (by decide), keep1 m d (r := main_arg0) (by decide)]

/-- And of the second. -/
theorem rows_second (d : Dev nD) : at_ (W9 m d) d main_v8 = fun j : S8192x64.Idx => rowsOf (at_ (W0 m d) d main_arg0) 1 (j 0).val (j 1).val := by
  refine (StableHlo.unary_result _ _ _ _ _ (W8 m d)).trans ?_
  refine (slice_second _).trans ?_
  rw [keep8 m d (r := main_arg0) (by decide), keep7 m d (r := main_arg0) (by decide), keep6 m d (r := main_arg0) (by decide), keep5 m d (r := main_arg0) (by decide),
    keep4 m d (r := main_arg0) (by decide), keep3 m d (r := main_arg0) (by decide), keep2 m d (r := main_arg0) (by decide), keep1 m d (r := main_arg0) (by decide)]

end Vals

/-! ## The regions -/

section Regs

variable (W : Dev nD → Valuation τ sig (Elt F)) (n b : ℕ)

/-- The table's region. -/
def tableReg : Pipeline.RegionSeg (pcfgs (F := F)) regAdm (dats W (owing (F := F) n b)) none defs₀ 𝒱₀ (K (F := F)).L (K (F := F)).lev 0 :=
  region 0 W (fun d => put (W d) main_v0 (tableVal (F := F) (at_ (W d) d main_arg1) (at_ (W d) d main_arg2))) n b (fun _ _ => rfl)
    (fun c w => by
      match w with
      | ⟨0, _⟩ => exact ((tableDat (W c) (owing n b c) c).arrAt_in 0 rfl _).trans (put_ne _ _ _ (r := main_arg1) (by decide)).symm
      | ⟨1, _⟩ => exact ((tableDat (W c) (owing n b c) c).arrAt_in 1 rfl _).trans (put_ne _ _ _ (r := main_arg2) (by decide)).symm
      | ⟨2, _⟩ => exact (table_final (W c) (owing n b c) c).trans (put_same _ main_v0 _).symm)
    (fun c r hr => put_ne _ _ _ (fun e => hr (Finset.mem_image.mpr ⟨2, Finset.mem_univ _, e.symm⟩)))

/-- The layers' first region. -/
def layersReg : Pipeline.RegionSeg (pcfgs (F := F)) regAdm (dats W (owing (F := F) n b)) none defs₀ 𝒱₀ (K (F := F)).L (K (F := F)).lev 1 :=
  region 1 W (fun d => put (W d) main_v7 (outVal (F := F) (at_ (W d) d main_v6) (at_ (W d) d main_v0) (at_ (W d) d main_v1) (at_ (W d) d main_arg4)
      (at_ (W d) d main_v2) (at_ (W d) d main_arg6) (at_ (W d) d main_v3))) n b (fun _ _ => rfl)
    (fun c w => by
      match w with
      | ⟨0, _⟩ => exact ((layersDat (W c) (owing n b c) c).arrAt_in 0 rfl _).trans (put_ne _ _ _ (r := main_v6) (by decide)).symm
      | ⟨1, _⟩ => exact ((layersDat (W c) (owing n b c) c).arrAt_in 1 rfl _).trans (put_ne _ _ _ (r := main_v0) (by decide)).symm
      | ⟨2, _⟩ => exact ((layersDat (W c) (owing n b c) c).arrAt_in 2 rfl _).trans (put_ne _ _ _ (r := main_v1) (by decide)).symm
      | ⟨3, _⟩ => exact ((layersDat (W c) (owing n b c) c).arrAt_in 3 rfl _).trans (put_ne _ _ _ (r := main_arg4) (by decide)).symm
      | ⟨4, _⟩ => exact ((layersDat (W c) (owing n b c) c).arrAt_in 4 rfl _).trans (put_ne _ _ _ (r := main_v2) (by decide)).symm
      | ⟨5, _⟩ => exact ((layersDat (W c) (owing n b c) c).arrAt_in 5 rfl _).trans (put_ne _ _ _ (r := main_arg6) (by decide)).symm
      | ⟨6, _⟩ => exact ((layersDat (W c) (owing n b c) c).arrAt_in 6 rfl _).trans (put_ne _ _ _ (r := main_v3) (by decide)).symm
      | ⟨7, _⟩ => exact (layers_final (W c) (owing n b c) c).trans (put_same _ main_v7 _).symm)
    (fun c r hr => put_ne _ _ _ (fun e => hr (Finset.mem_image.mpr ⟨7, Finset.mem_univ _, e.symm⟩)))

/-- The layers' second region. -/
def layersReg' : Pipeline.RegionSeg (pcfgs (F := F)) regAdm (dats W (owing (F := F) n b)) none defs₀ 𝒱₀ (K (F := F)).L (K (F := F)).lev 2 :=
  region 2 W (fun d => put (W d) main_v11 (outVal (F := F) (at_ (W d) d main_v10) (at_ (W d) d main_v0) (at_ (W d) d main_v1) (at_ (W d) d main_arg4)
      (at_ (W d) d main_v2) (at_ (W d) d main_arg6) (at_ (W d) d main_v3))) n b (fun _ _ => rfl)
    (fun c w => by
      match w with
      | ⟨0, _⟩ => exact ((layersDat' (W c) (owing n b c) c).arrAt_in 0 rfl _).trans (put_ne _ _ _ (r := main_v10) (by decide)).symm
      | ⟨1, _⟩ => exact ((layersDat' (W c) (owing n b c) c).arrAt_in 1 rfl _).trans (put_ne _ _ _ (r := main_v0) (by decide)).symm
      | ⟨2, _⟩ => exact ((layersDat' (W c) (owing n b c) c).arrAt_in 2 rfl _).trans (put_ne _ _ _ (r := main_v1) (by decide)).symm
      | ⟨3, _⟩ => exact ((layersDat' (W c) (owing n b c) c).arrAt_in 3 rfl _).trans (put_ne _ _ _ (r := main_arg4) (by decide)).symm
      | ⟨4, _⟩ => exact ((layersDat' (W c) (owing n b c) c).arrAt_in 4 rfl _).trans (put_ne _ _ _ (r := main_v2) (by decide)).symm
      | ⟨5, _⟩ => exact ((layersDat' (W c) (owing n b c) c).arrAt_in 5 rfl _).trans (put_ne _ _ _ (r := main_arg6) (by decide)).symm
      | ⟨6, _⟩ => exact ((layersDat' (W c) (owing n b c) c).arrAt_in 6 rfl _).trans (put_ne _ _ _ (r := main_v3) (by decide)).symm
      | ⟨7, _⟩ => exact (layers_final' (W c) (owing n b c) c).trans (put_same _ main_v11 _).symm)
    (fun c r hr => put_ne _ _ _ (fun e => hr (Finset.mem_image.mpr ⟨7, Finset.mem_univ _, e.symm⟩)))

end Regs

/-! ## The calls' words -/

section CallWords

variable (R : Dev nD → Fin 2 → ℕ → ℕ → BitVec 32) (d : Dev nD)

theorem bigSep_cast {n k : ℕ} (h : n = k) (Φ : Fin k → sProp ℳ) : bigSep Finset.univ (fun c : Fin n => Φ (Fin.cast h c)) = bigSep Finset.univ Φ := by
  subst h; rfl

theorem st_tiles (q : Fin 2) : (bigSep Finset.univ fun c => (P (F := F) R).st q d c : sProp ℳ)
    = bigSep Finset.univ fun c : Fin 2 => bigSep Finset.univ fun s : Fin 16 => before (F := F) (R d q) d (point c s) q :=
  (bigSep_congr fun c _ => bigSep_cast (subs (F := F) q) fun s => before (F := F) (R d q) d (point (Fin.cast (cores (F := F) q) c) s) q).trans
    (bigSep_cast (cores (F := F) q) fun c => bigSep Finset.univ fun s : Fin 16 => before (F := F) (R d q) d (point c s) q)

theorem dn_tiles (q : Fin 2) : (bigSep Finset.univ fun c => (P (F := F) R).dn q d c : sProp ℳ)
    = bigSep Finset.univ fun c : Fin 2 => bigSep Finset.univ fun s : Fin 16 => after (F := F) (R d q) d (point c s) q :=
  (bigSep_congr fun c _ => bigSep_cast (subs (F := F) q) fun s => after (F := F) (R d q) d (point (Fin.cast (cores (F := F) q) c) s) q).trans
    (bigSep_cast (cores (F := F) q) fun c => bigSep Finset.univ fun s : Fin 16 => after (F := F) (R d q) d (point c s) q)

/-- The first call's arrays are the words of its tiles. -/
theorem first_in (f : Buf (Elt F) ((SparseCore.T d : Thread nD τ).loc main_v5)) :
    (iprop(((SparseCore.T d : Thread nD τ).loc main_v4 ↦{fullShare} (fun j : S8192x64.Idx => R d 0 (j 0).val (j 1).val : Buf (Elt F) ((SparseCore.T d : Thread nD τ).loc main_v4)))
        ∗ ((SparseCore.T d : Thread nD τ).loc main_v5 ↦{fullShare} f)) : sProp ℳ)
      ⊢ bigSep Finset.univ fun c => (P (F := F) R).st 0 d c := by
  rw [st_tiles]
  refine BIBase.Entails.trans ?_ (deal (F := F) (R d 0) d 0)
  unfold rowsAt spare
  rw [show xM 0 = Memref.whole main_v4_scv from rfl, show oM 0 = Memref.whole main_v5_scv from rfl, owns_whole]
  simp only [Memref.view_whole, View.set_whole]
  iintro ⟨Hx, Ho⟩
  isplitl [Hx]; · iexact Hx
  iexists f
  iexact Ho

theorem first_out :
    (bigSep Finset.univ fun c => (P (F := F) R).dn 0 d c : sProp ℳ)
      ⊢ iprop(((SparseCore.T d : Thread nD τ).loc main_v4 ↦{fullShare} (fun j : S8192x64.Idx => R d 0 (j 0).val (j 1).val : Buf (Elt F) ((SparseCore.T d : Thread nD τ).loc main_v4)))
        ∗ ((SparseCore.T d : Thread nD τ).loc main_v5 ↦{fullShare} (fun j : S2097152.Idx => outWord (R d 0) (j 0).val : Buf (Elt F) ((SparseCore.T d : Thread nD τ).loc main_v5)))) := by
  rw [dn_tiles]
  refine BIBase.Entails.trans (collect (F := F) (R d 0) d 0) ?_
  unfold rowsAt countsAt
  rw [show xM 0 = Memref.whole main_v4_scv from rfl, show oM 0 = Memref.whole main_v5_scv from rfl, owns_whole, owns_whole]

/-- The second call's. -/
theorem second_in (f : Buf (Elt F) ((SparseCore.T d : Thread nD τ).loc main_v9)) :
    (iprop(((SparseCore.T d : Thread nD τ).loc main_v8 ↦{fullShare} (fun j : S8192x64.Idx => R d 1 (j 0).val (j 1).val : Buf (Elt F) ((SparseCore.T d : Thread nD τ).loc main_v8)))
        ∗ ((SparseCore.T d : Thread nD τ).loc main_v9 ↦{fullShare} f)) : sProp ℳ)
      ⊢ bigSep Finset.univ fun c => (P (F := F) R).st 1 d c := by
  rw [st_tiles]
  refine BIBase.Entails.trans ?_ (deal (F := F) (R d 1) d 1)
  unfold rowsAt spare
  rw [show xM 1 = Memref.whole main_v8_scv from rfl, show oM 1 = Memref.whole main_v9_scv from rfl, owns_whole]
  simp only [Memref.view_whole, View.set_whole]
  iintro ⟨Hx, Ho⟩
  isplitl [Hx]; · iexact Hx
  iexists f
  iexact Ho

theorem second_out :
    (bigSep Finset.univ fun c => (P (F := F) R).dn 1 d c : sProp ℳ)
      ⊢ iprop(((SparseCore.T d : Thread nD τ).loc main_v8 ↦{fullShare} (fun j : S8192x64.Idx => R d 1 (j 0).val (j 1).val : Buf (Elt F) ((SparseCore.T d : Thread nD τ).loc main_v8)))
        ∗ ((SparseCore.T d : Thread nD τ).loc main_v9 ↦{fullShare} (fun j : S2097152.Idx => outWord (R d 1) (j 0).val : Buf (Elt F) ((SparseCore.T d : Thread nD τ).loc main_v9)))) := by
  rw [dn_tiles]
  refine BIBase.Entails.trans (collect (F := F) (R d 1) d 1) ?_
  unfold rowsAt countsAt
  rw [show xM 1 = Memref.whole main_v8_scv from rfl, show oM 1 = Memref.whole main_v9_scv from rfl, owns_whole, owns_whole]

end CallWords

end Cert.Proof

end
-- ==== Proof.Main.lean ====
/-
  The whole program: its TensorCore's run through every statement, and what the launch comes to.
-/
module

public import proofs.«01_k».proof.Proof.Chain

@[expose] public section

noncomputable section

namespace Cert.Proof

open Cert.KernelIdeal Cert.KernelIdeal.Gen Cert.Proof.Hist

open Idealize.ShloMosaic Idealize.ShloMosaic.TcCoe Idealize.ShloMosaic.Pipeline
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Rounds

variable {F : FTy → Type} [FloatOps F]

local notation "ℳ" => MT nD τ sig (HIx 2) (Elt F) ℕ UU ℕ

variable (m : (ℓ : Loc nD τ sig) → Buf (Elt F) ℓ) (ρ : Dev nD → PrngReg)

/-- The rows both calls count, on every device. -/
def allRows (d : Dev nD) (q : Fin 2) : ℕ → ℕ → BitVec 32 := rowsOf (at_ (W0 m d) d main_arg0) q

/-- What the run keeps: every buffer of the TensorCore's at the last valuation. -/
def FIN (d : Dev nD) : sProp ℳ := unscopedBufs d (at_ (W13 m d) d)

/-- The pipelines' ghost state. -/
def seeds (d : Dev nD) : sProp ℳ := iprop(seed (F := F) 0 d ∗ seed (F := F) 1 d ∗ seed (F := F) 2 d)

theorem first_call (κ : GSem nD τ sig → ℕ) (d : Dev nD) (Φ : PUnit → sProp ℳ) :
    iprop((K (F := F)).ctx EH (P (F := F) (allRows m)) κ ∗ St d 0 (W5 m d) ∗ (St d 1 (W6 m d) -∗ Φ ⟨⟩))
      ⊢ wp Idealize.ShloMosaic.frame (wpE ((K (F := F)).defs (D (F := F))) 𝒱 (SparseCore.T d) none) Set.univ ((K (F := F)).run d 0) Φ :=
  call_step (allRows m) κ d 0 (W5 m d) main_v4 main_v5 (by decide) (by decide) (by decide) (words (at_ (W0 m d) d main_arg0) 0)
    (by rw [rows_first]; exact first_in (allRows m) d _) (by rw [rows_first]; exact first_out (allRows m) d) Φ

theorem second_call (κ : GSem nD τ sig → ℕ) (d : Dev nD) (Φ : PUnit → sProp ℳ) :
    iprop((K (F := F)).ctx EH (P (F := F) (allRows m)) κ ∗ St d 1 (W9 m d) ∗ (St d 2 (W10 m d) -∗ Φ ⟨⟩))
      ⊢ wp Idealize.ShloMosaic.frame (wpE ((K (F := F)).defs (D (F := F))) 𝒱 (SparseCore.T d) none) Set.univ ((K (F := F)).run d 1) Φ :=
  call_step (allRows m) κ d 1 (W9 m d) main_v8 main_v9 (by decide) (by decide) (by decide) (words (at_ (W0 m d) d main_arg0) 1)
    (by rw [rows_second]; exact second_in (allRows m) d _) (by rw [rows_second]; exact second_out (allRows m) d) Φ

/-- @main on a device's TensorCore. -/
theorem hmain [∀ e, Nonempty (Elt F e)] (κ : GSem nD τ sig → ℕ) (d : Dev nD) :
    iprop((K (F := F)).ctx EH (P (F := F) (allRows m)) κ ∗ (K (F := F)).tcSt EH d 0 ∗ (K (F := F)).tcRes m ρ d ∗ seeds (F := F) d)
      ⊢ wp Idealize.ShloMosaic.frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd seeds
  simp only [main, wp_bind, wp_pure]
  iintro ⟨#Hctx, Hst, ⟨Hb, Hu, Hts, -⟩, ⟨Hs0, Hs1, Hs2⟩⟩
  ihave #Hlev := (SparseCore.Cfg.ctx_levAts κ) $$ Hctx
  iapply (region_step d 0 0 (W0 m) (W1 m) (tableReg (W0 m) _ _) rfl rfl _)
  isplitl [Hb Hu Hst]
  · unfold St
    isplitl [Hb]; · iexact Hb
    isplitl [Hu]; · iexact Hu
    iexact Hst
  isplitl [Hs0]; · iexact Hs0
  isplitr; · iexact Hlev
  iintro Hst
  iapply (host_step d 0 (W1 m d) opB1 (StableHlo.reshape_bufs_sub ..) rfl _)
  isplitl [Hst]; · iexact Hst
  iintro Hst
  iapply (host_step d 0 (W2 m d) opB2 (StableHlo.reshape_bufs_sub ..) rfl _)
  isplitl [Hst]; · iexact Hst
  iintro Hst
  iapply (host_step d 0 (W3 m d) opB3 (StableHlo.reshape_bufs_sub ..) rfl _)
  isplitl [Hst]; · iexact Hst
  iintro Hst
  iapply (host_step d 0 (W4 m d) opX0 (StableHlo.unary_bufs_sub ..) rfl _)
  isplitl [Hst]; · iexact Hst
  iintro Hst
  iapply (first_call m κ d _)
  isplitr; · iexact Hctx
  isplitl [Hst]; · iexact Hst
  iintro Hst
  iapply (host_step d 1 (W6 m d) opH0 (StableHlo.reshape_bufs_sub ..) rfl _)
  isplitl [Hst]; · iexact Hst
  iintro Hst
  iapply (region_step d 1 1 (W7 m) (W8 m) (layersReg (W7 m) _ _) rfl rfl _)
  isplitl [Hst]; · iexact Hst
  isplitl [Hs1]; · iexact Hs1
  isplitr; · iexact Hlev
  iintro Hst
  iapply (host_step d 1 (W8 m d) opX1 (StableHlo.unary_bufs_sub ..) rfl _)
  isplitl [Hst]; · iexact Hst
  iintro Hst
  iapply (second_call m κ d _)
  isplitr; · iexact Hctx
  isplitl [Hst]; · iexact Hst
  iintro Hst
  iapply (host_step d 2 (W10 m d) opH1 (StableHlo.reshape_bufs_sub ..) rfl _)
  isplitl [Hst]; · iexact Hst
  iintro Hst
  iapply (region_step d 2 2 (W11 m) (W12 m) (layersReg' (W11 m) _ _) rfl rfl _)
  isplitl [Hst]; · iexact Hst
  isplitl [Hs2]; · iexact Hs2
  isplitr; · iexact Hlev
  iintro Hst
  iapply (host_step d 2 (W12 m d) opOut (StableHlo.binary_bufs_sub ..) rfl _)
  isplitl [Hst]; · iexact Hst
  iintro Hst
  unfold St FIN
  icases Hst with ⟨Hb, Hu, Hst⟩
  imodintro
  isplitl [Hst]; · iexact Hst
  isplitl [Hu]; · iexact Hu
  isplitl [Hb]; · iexact Hb
  iexact Hts

/-! ## The launch -/

/-- What each component of the ghost state starts from. -/
def u₀ : UU := (initOf (K (F := F)).hsCells (K (F := F)).hsToks,
  (initOf (Pipeline.cells (nD := nD) (τ := τ) (Pipeline.pin (pcfgs (F := F)) regAdm) cells_apart)
    (Pipeline.launchToks (nD := nD) (τ := τ) (Pipeline.pin (pcfgs (F := F)) regAdm) cells_apart), 1))

theorem three {M : Type} [URA M] (Φ : Fin 3 → sProp M) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

theorem seeds_one (d : Dev nD) :
    (iprop((bigSep Finset.univ fun p => Pipeline.cellsGhost (Pipeline.pin (pcfgs (F := F)) regAdm) EP p d)
      ∗ (bigSep Finset.univ fun p => Pipeline.toksInit (Pipeline.pin (pcfgs (F := F)) regAdm) EP p d)) : sProp ℳ) ⊢ seeds (F := F) d := by
  rw [three, three]
  unfold seeds seed
  iintro ⟨⟨A0, A1, A2⟩, ⟨B0, B1, B2⟩⟩
  isplitl [A0 B0]; · isplitl [A0] <;> iassumption
  isplitl [A1 B1]; · isplitl [A1] <;> iassumption
  isplitl [A2] <;> iassumption

theorem seeds_deal :
    (iprop((bigSep Finset.univ fun c : Dev nD => bigSep Finset.univ fun p => Pipeline.cellsGhost (Pipeline.pin (pcfgs (F := F)) regAdm) EP p c)
      ∗ (bigSep Finset.univ fun c : Dev nD => bigSep Finset.univ fun p => Pipeline.toksInit (Pipeline.pin (pcfgs (F := F)) regAdm) EP p c)) : sProp ℳ)
      ⊢ bigSep Finset.univ fun d : Dev nD => seeds (F := F) d := by
  rw [← bigSep_sep']
  exact bigSep_mono fun d _ => seeds_one d

theorem nothing {I : Type} {M : Type} [URA M] (s : Finset I) : bigSep s (fun _ => (iprop(emp) : sProp M)) = iprop(emp) := bigSep_emp_const s

theorem one_of {I : Type} [DecidableEq I] {M : Type} [URA M] {s : Finset I} {i : I} (h : i ∈ s) (Φ : I → sProp M) : (bigSep s Φ : sProp M) ⊢ Φ i := bigSep_elim h

theorem hu₀ (R : Dev nD → Fin 2 → ℕ → ℕ → BitVec 32) : (ownU (u₀ (F := F)) : sProp ℳ)
    ⊢ |={Set.univ}=> iprop(BI.own (EH (initOf (K (F := F)).hsCells (K (F := F)).hsToks)) ∗ (bigSep Finset.univ fun d : Dev nD => seeds (F := F) d)
        ∗ bigSep Finset.univ fun thr : Thread nD τ => bigSep Finset.univ fun q : Fin 2 => (P (F := F) R).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost (Pipeline.pin (pcfgs (F := F)) regAdm) EP cells_apart) $$ HP with Hg
  imodintro
  isplitl [HH]; · iexact HH
  isplitl [Hg]; · iapply seeds_deal; iexact Hg
  rw [show (fun thr : Thread nD τ => bigSep Finset.univ fun q : Fin 2 => (P (F := F) R).x q thr) = fun _ => iprop(emp) from funext fun _ => nothing Finset.univ, nothing]
  iempintro

/-- Every buffer of a TensorCore's reads as the last valuation has it. -/
def fq (d : Dev nD) (s' : Phys nD τ sig (Elt F)) : Prop :=
  ∀ b : Ref sig .tc, ¬ b.isScoped → s'.mem.mem ((SparseCore.T d : Thread nD τ).loc b) = at_ (W13 m d) d b

theorem hfin (d : Dev nD) (s' : Phys nD τ sig (Elt F)) : iprop(FIN m d ∗ SI s') ⊢ (⌜fq m d s'⌝ : sProp ℳ) := by
  refine BIBase.Entails.trans (forall_intro fun b => ?_) pure_forall.2
  by_cases hb : b.isScoped
  · exact BIClass.pure_intro fun h => absurd hb h
  · unfold FIN unscopedBufs
    iintro ⟨Hu, HSI⟩
    ihave Hx := (one_of (Finset.mem_filter.mpr ⟨Finset.mem_univ b, hb⟩) fun b : Ref sig .tc => (SparseCore.T d : Thread nD τ).loc b ↦{fullShare} at_ (W13 m d) d b) $$ Hu
    ihave H := (SI_pointsTo_agree (st := s') (ℓ := (SparseCore.T d : Thread nD τ).loc b) (I := Finset.univ) (q := fullShare) (f := at_ (W13 m d) d b)) $$ [HSI Hx]
    · isplitl [HSI] <;> iassumption
    icases H with %h
    ipureintro
    exact fun _ => funext fun i => h i (Finset.mem_univ i)

/-- What the program's run comes to. -/
def QC : PUnit × MemSt nD τ sig (Elt F) → Prop := fun r =>
  (∀ (d : Dev nD) (b : Ref sig .tc), ¬ b.isScoped → r.2.mem ((SparseCore.T d : Thread nD τ).loc b) = at_ (W13 m d) d b) ∧ r.2.sem = fun _ => 0

/-- From any memory whose indices lie in the table, whatever the arithmetic. -/
theorem run_main [∀ e, Nonempty (Elt F e)] (hpre : ∀ (d : Dev nD) (i : S16384x64.Idx), ((at_ (W0 m d) d main_arg0 : S16384x64.Idx → BitVec 32) i).toNat < 832) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (F := F) (allRows m)) (A := ∅) facts v₀
    (fun q hq => match q with | 0 => nomatch hq | 1 => nomatch hq)
    (fun q _ => tileObl (allRows m) (fun d _ _ _ => hpre d _) q)
    (fun q _ => SparseCore.Cfg.VecSplit.of_plain (vecSplit (allRows m) q))
    m ρ main (fun d => seeds (F := F) d) (FIN m) (u₀ (F := F)) (sep_elim_left.trans (hu₀ (allRows m))) (hmain m ρ) (fq m) (hfin m) (QC m) (fun _ h hz => ⟨h, hz⟩)

end Cert.Proof

end
-- ==== Proof.Ranges.lean ====
/-
  What the printed preconditions say of the arguments: every index names a row of the table, and the two weight arrays
  that meet in a product hold finite numbers.
-/
module

public import Idealize.ShloMosaic.Lib.ReduceAll
public import Idealize.ShloMosaic.PureOps.Ideal
public import proofs.«01_k».proof.Proof.Gen.Pre_rows_named
public import proofs.«01_k».proof.Proof.Gen.Pre_rows_named_finite

@[expose] public section

namespace Cert.Proof

open Idealize.ShloMosaic

theorem one_index (a b : (⟨0, ![]⟩ : Shape).Idx) : a = b := funext fun i => i.elim0

instance : Subsingleton (⟨0, ![]⟩ : Shape).Idx := ⟨one_index⟩

/-- A word at least zero and less than 832, as signed numbers, is less than 832 as a natural number. -/
theorem small_of_signed {w : BitVec 32} (h0 : (0#32).toInt ≤ w.toInt) (h1 : w.toInt < (832#32).toInt) : w.toNat < 832 := by
  simp only [BitVec.toInt_eq_toNat_cond, BitVec.toNat_ofNat, Nat.reducePow, Nat.reduceMod] at h0 h1
  have := w.isLt
  omega

variable {F : FTy → Type} [FloatOps F]

/-- Where the frames' precondition holds, every index names a row. -/
theorem rows_of_named {x : IVec ⟨2, ![16384, 64]⟩ 32} {a1 a2 a3 a4 a5 a6 a7}
    (h : Cert.Pre_rows_named.fn (F := F) x a1 a2 a3 a4 a5 a6 a7 = fun _ => 1#1) (i : (⟨2, ![16384, 64]⟩ : Shape).Idx) : (x i).toNat < 832 := by
  have h0 := congrFun h (fun a => a.elim0)
  dsimp only [Cert.Pre_rows_named.fn] at h0
  obtain ⟨hl, hr⟩ := IntOp.andi_eq_one.1 h0
  exact small_of_signed (IntOp.cmpi_sge.1 (Host.reduce_andi_all _ _ _ _ _ hl i)) (IntOp.cmpi_slt.1 (Host.reduce_andi_all _ _ _ _ _ hr i))

/-- The pattern of the greatest single-precision value is the top element. -/
theorem top_pattern : Ideal.ofBits .f32 0x7F800000#32 = ⊤ := by simp [Ideal.ofBits, Ideal.ieee]

/-- An extended real whose absolute value is below the top is a real number. -/
theorem finite_of_abs {a : EReal} (h : FloatOps.cmpf (F := Ideal) (φ := .f32) .olt (FloatOps.hostAbsf (F := Ideal) (φ := .f32) a) (Ideal.ofBits .f32 0x7F800000#32) = 1#1) : a ≠ ⊤ ∧ a ≠ ⊥ := by
  rw [top_pattern] at h
  have h' : max a (-a) < ⊤ := by
    by_contra hn
    have : (Ideal.cmp .olt (max a (-a)) ⊤) = 0#1 := by
      simp [Ideal.cmp, hn]
    exact absurd (this.symm.trans h) (by decide)
  constructor
  · rintro rfl
    simp at h'
  · rintro rfl
    simp at h'

/-- Where the value claim's precondition holds, every index names a row. -/
theorem rows_of_named_finite {x : IVec ⟨2, ![16384, 64]⟩ 32} {a1 a2 a3 a4 a5 a6 a7}
    (h : Cert.Pre_rows_named_finite.fn (F := F) x a1 a2 a3 a4 a5 a6 a7 = fun _ => 1#1) (i : (⟨2, ![16384, 64]⟩ : Shape).Idx) : (x i).toNat < 832 := by
  have h0 := congrFun h (fun a => a.elim0)
  dsimp only [Cert.Pre_rows_named_finite.fn, Cert.Pre_rows_named_finite.fn_part1] at h0
  obtain ⟨hl, hr⟩ := IntOp.andi_eq_one.1 (IntOp.andi_eq_one.1 (IntOp.andi_eq_one.1 h0).1).1
  exact small_of_signed (IntOp.cmpi_sge.1 (Host.reduce_andi_all _ _ _ _ _ hl i)) (IntOp.cmpi_slt.1 (Host.reduce_andi_all _ _ _ _ _ hr i))

/-- And the table's entries are finite. -/
theorem table_finite {x : IVec ⟨2, ![16384, 64]⟩ 32} {a1 a2 a3 a4 a5 a6 a7}
    (h : Cert.Pre_rows_named_finite.fn (F := Ideal) x a1 a2 a3 a4 a5 a6 a7 = fun _ => 1#1) (i : (⟨2, ![832, 1024]⟩ : Shape).Idx) : a1 i ≠ ⊤ ∧ a1 i ≠ ⊥ := by
  have h0 := congrFun h (fun a => a.elim0)
  dsimp only [Cert.Pre_rows_named_finite.fn, Cert.Pre_rows_named_finite.fn_part1] at h0
  exact finite_of_abs (Host.reduce_andi_all _ _ _ _ _ (IntOp.andi_eq_one.1 (IntOp.andi_eq_one.1 h0).1).2 i)

/-- And so are the first layer's weights. -/
theorem weights_finite {x : IVec ⟨2, ![16384, 64]⟩ 32} {a1 a2 a3 a4 a5 a6 a7}
    (h : Cert.Pre_rows_named_finite.fn (F := Ideal) x a1 a2 a3 a4 a5 a6 a7 = fun _ => 1#1) (i : (⟨2, ![512, 1024]⟩ : Shape).Idx) : a2 i ≠ ⊤ ∧ a2 i ≠ ⊥ := by
  have h0 := congrFun h (fun a => a.elim0)
  dsimp only [Cert.Pre_rows_named_finite.fn, Cert.Pre_rows_named_finite.fn_part1] at h0
  exact finite_of_abs (Host.reduce_andi_all _ _ _ _ _ (IntOp.andi_eq_one.1 h0).2 i)

end Cert.Proof

end
-- ==== Proof.Same.lean ====
/-
  The program as printed and the program read at the extended reals have one text: their body tables are equal, at any
  float values.
-/
module

public import proofs.«01_k».proof.Proof.Gen.Kernel
public import proofs.«01_k».proof.Proof.Gen.KernelIdeal

@[expose] public section

noncomputable section

namespace Cert.Proof

open Idealize.ShloMosaic Idealize.ShloMosaic.TcCoe

variable {F : FTy → Type} [FloatOps F]

set_option maxHeartbeats 4000000 in
/-- One label's body, on any processor. -/
theorem body_same (p : Proc Cert.KernelIdeal.τ) (ℓ : Fin 5) (a : Cert.KernelIdeal.Λ₀.Args ℓ) :
    Cert.Kernel.defs₀ (F := F) p ℓ a = Cert.KernelIdeal.defs₀ (F := F) p ℓ a := by
  match p, ℓ, a with
  | .tc, 0, _ => rfl
  | .tc, 1, _ => rfl
  | .tc, 2, _ => rfl
  | .tc, 3, _ => rfl
  | .tc, 4, _ => rfl
  | .scScalar _, 0, _ => rfl
  | .scScalar _, 1, _ => rfl
  | .scScalar _, 2, _ => rfl
  | .scScalar _, 3, _ => rfl
  | .scScalar _, 4, _ => rfl
  | .scVector _ _, 0, _ => rfl
  | .scVector _ _, 1, _ => rfl
  | .scVector _ _, 2, _ => rfl
  | .scVector _ _, 3, _ => rfl
  | .scVector _ _, 4, _ => rfl

theorem bodies_same : Cert.Kernel.defs₀ (F := F) = Cert.KernelIdeal.defs₀ (F := F) := by
  funext p ℓ a
  exact body_same p ℓ a

theorem defs_same : Cert.Kernel.defs (F := F) = Cert.KernelIdeal.defs (F := F) :=
  congrArg (fun D => (Cert.KernelIdeal.sc (F := F)).defs (Pipeline.defs (Cert.KernelIdeal.pcfgs (F := F)) D)) bodies_same

theorem threads_same : Cert.Kernel.threads (F := F) = Cert.KernelIdeal.threads (F := F) := rfl

end Cert.Proof

end
-- ==== Proof.Frames.lean ====
/-
  The frames: both kernel programs and the reference run to their end, leave their arguments as they were and every
  counter at zero.
-/
module

public import proofs.«01_k».proof.Proof.Main
public import proofs.«01_k».proof.Proof.Ranges
public import proofs.«01_k».proof.Defs
public import proofs.«01_k».proof.Proof.Same
public import proofs.«01_k».proof.Proof.Gen.ReferenceIdeal
public import proofs.«01_k».proof.Proof.Gen.ReferenceIdeal.Run

@[expose] public section

noncomputable section

namespace Cert.Proof

open Cert.KernelIdeal Cert.KernelIdeal.Gen

open Idealize.ShloMosaic Idealize.ShloMosaic.TcCoe

variable {F : FTy → Type} [FloatOps F]
variable (m : (ℓ : Loc nD τ sig) → Buf (Elt F) ℓ)

/-- The buffers the program writes. -/
def written : List (Ref sig .tc) :=
  [main_v0, main_v1, main_v2, main_v3, main_v4, main_v5, main_v6, main_v7, main_v8, main_v9, main_v10, main_v11, main_v12]

/-- A buffer no statement writes holds at the end what it held at the start. -/
theorem kept (d : Dev nD) {r : Ref sig .tc} (h : r ∉ written) : at_ (W13 m d) d r = m ((SparseCore.T d : Thread nD τ).loc r) := by
  simp only [written, List.mem_cons, List.not_mem_nil, or_false, not_or] at h
  obtain ⟨h0, h1, h2, h3, h4, h5, h6, h7, h8, h9, h10, h11, h12⟩ := h
  exact (keep13 m d h12).trans <| (keep12 m d h11).trans <| (keep11 m d h10).trans <| (keep10 m d h9).trans <| (keep9 m d h8).trans <|
    (keep8 m d h7).trans <| (keep7 m d h6).trans <| (keep6 m d h5).trans <| (keep5 m d h4).trans <| (keep4 m d h3).trans <|
    (keep3 m d h2).trans <| (keep2 m d h1).trans (keep1 m d h0)

/-- What a finished run says of one argument. -/
theorem arg_kept {m : (ℓ : Loc nD τ sig) → Buf (Elt F) ℓ} {r : PUnit × MemSt nD τ sig (Elt F)} (h : QC m r) (d : Dev nD) (b : Ref sig .tc)
    (hs : ¬ b.isScoped) (hw : b ∉ written) : r.2.mem ((SparseCore.T d : Thread nD τ).loc b) = m ((SparseCore.T d : Thread nD τ).loc b) :=
  (h.1 d b hs).trans (kept m d hw)

/-- What a finished run says of the arguments. -/
theorem args_kept {m : (ℓ : Loc nD τ sig) → Buf (Elt F) ℓ} {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  ⟨arg_kept h c main_arg0 (by decide) (by decide), arg_kept h c main_arg1 (by decide) (by decide), arg_kept h c main_arg2 (by decide) (by decide),
    arg_kept h c main_arg3 (by decide) (by decide), arg_kept h c main_arg4 (by decide) (by decide), arg_kept h c main_arg5 (by decide) (by decide),
    arg_kept h c main_arg6 (by decide) (by decide), arg_kept h c main_arg7 (by decide) (by decide)⟩

/-- What the three frames of the kernel say of a finished run. -/
def Framed (m : (ℓ : Loc nD τ sig) → Buf (Elt F) ℓ) (r : PUnit × MemSt nD τ sig (Elt F)) : Prop :=
  (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7))
  ∧ r.2.sem = fun _ => 0

/-- Every run of the program, at any float values, whose indices name rows of the table. -/
theorem framed [∀ e, Nonempty (Elt F e)] (ρ : Dev nD → PrngReg)
    (h : ∀ (d : Dev nD) (i : S16384x64.Idx), ((m ((SparseCore.T d : Thread nD τ).loc main_arg0) : S16384x64.Idx → BitVec 32) i).toNat < 832) :
    θ_run (Cert.KernelIdeal.defs (F := F)) (Cert.KernelIdeal.threads (F := F)) ⟨m, fun _ => 0, ρ⟩ (Framed m) :=
  (θ_run _ _ _).mono (fun _ hq => ⟨fun c => args_kept hq c, hq.2⟩) (run_main m ρ h)

/-- The program as printed, at words. -/
theorem frame_kernel : Cert.quiescent_Kernel := by
  intro m ρ h
  have k := framed (F := Bits) m ρ fun d i => rows_of_named (h d) i
  rw [← defs_same] at k
  exact k

/-- The program at the extended reals. -/
theorem frame_ideal : Cert.quiescent_KernelIdeal := fun m ρ h => framed m ρ fun d i => rows_of_named (h d) i

/-- The program at the extended reals, the weights finite as well. -/
theorem frame_ideal_finite : Cert.quiescent_KernelIdeal_pre_rows_named_finite := fun m ρ h => framed m ρ fun d i => rows_of_named_finite (h d) i

/-- The reference, whatever the arguments. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- The reference on the arguments that the value claim takes. -/
theorem frame_reference_finite : Cert.quiescent_ReferenceIdeal_pre_rows_named_finite := fun m ρ _ => frame_reference m ρ trivial

end Cert.Proof

end
-- ==== Proof.Layers.lean ====
/-
  The TensorCore kernels' values, read at an index over the extended reals: the projected table's entries are inner
  products, and a row of the layers' output is the network's last layers on a sum over the table's rows, each times the
  number of times that the row of indices names it.
-/
module

public import proofs.«01_k».proof.Proof.Bodies
public import Idealize.ShloMosaic.Lib.Pointwise

@[expose] public section

noncomputable section

namespace Cert.Proof

open Cert.KernelIdeal Cert.KernelIdeal.Gen Cert.Proof.Hist

open Idealize.ShloMosaic

/-- The layers after the first product: its biases, the rectifiers, the second and the third layer. -/
def headOf (A b1 : Fin 512 → EReal) (w2 : Fin 256 → Fin 512 → EReal) (b2 w3 : Fin 256 → EReal) (b3 : EReal) : EReal :=
  (∑ g : Fin 256, max ((∑ k : Fin 512, max (A k + b1 k) 0 * w2 g k) + b2 g) 0 * w3 g) + b3

/-- The table's entries. -/
theorem tableVal_apply (e : S832x1024.Idx → EReal) (w : S512x1024.Idx → EReal) (v : Fin 896) (k : Fin 512) :
    tableVal (F := Ideal) e w (ix2 v k) = if h : v.val < 832 then ∑ x : Fin 1024, e (ix2 ⟨v.val, h⟩ x) * w (ix2 k x) else 0 := by
  unfold tableVal
  split
  · next h =>
    have hv : v.val < 832 := h
    rw [dif_pos hv]
    refine (congrArg (k0_pay2 (F := Ideal) e w) (eq_ix2 _)).trans ?_
    pointwise [k0_pay2]
  · next h =>
    have hv : ¬ v.val < 832 := h
    rw [dif_neg hv]
    exact Ideal.ofBits_zero_bf16

/-- A packed word's byte, as a number. -/
theorem byte_value (n k : ℕ) (hn : n < 2 ^ 31) (hk : k < 4) :
    FloatOps.sitofp (F := Ideal) .bf16 (IntOp.andi (IntOp.shrsi .vector (BitVec.ofNat 32 n) (BitVec.ofNat 32 (8 * k))) 255#32)
      = (((n / 2 ^ (8 * k) % 256 : ℕ) : ℝ) : EReal) := by
  have hs : (BitVec.ofNat 32 (8 * k)).toNat = 8 * k := by rw [BitVec.toNat_ofNat]; omega
  have hm : (BitVec.ofNat 32 n).msb = false := by
    rw [BitVec.msb_eq_decide, BitVec.toNat_ofNat]
    simp only [decide_eq_false_iff_not]
    omega
  have he : (IntOp.andi (IntOp.shrsi .vector (BitVec.ofNat 32 n) (BitVec.ofNat 32 (8 * k))) 255#32).toNat = n / 2 ^ (8 * k) % 256 := by
    have h32 : (BitVec.ofNat 32 (8 * k)).toNat < 32 := by omega
    unfold IntOp.andi IntOp.shrsi
    rw [if_pos h32, BitVec.sshiftRight_eq', BitVec.sshiftRight_eq_of_msb_false hm, BitVec.toNat_and, BitVec.toNat_ushiftRight, hs, BitVec.toNat_ofNat,
      Nat.mod_eq_of_lt (by omega : n < 2 ^ 32), Nat.shiftRight_eq_div_pow]
    exact Nat.and_two_pow_sub_one_eq_mod _ 8
  show (((_ : ℤ) : ℝ) : EReal) = _
  rw [BitVec.toInt_eq_toNat_of_lt (by rw [he]; omega), he]
  norm_cast

/-- A row of the layers' output, from the row's counts. -/
theorem layersVal_row (H : S128x2x8x128.Idx → BitVec 32) (E : S896x512.Idx → EReal) (b1 : S1x512.Idx → EReal) (w2 : S256x512.Idx → EReal)
    (b2 : S1x256.Idx → EReal) (w3 : S1x256.Idx → EReal) (b3 : S1x1.Idx → EReal) (R : ℕ → ℕ → BitVec 32) (n : ℕ) (r : Fin 1024)
    (hH : ∀ (j : Fin 2) (c : Fin 128), H (ix4 ⟨r.val / 8, by omega⟩ j ⟨r.val % 8, by omega⟩ c) = BitVec.ofNat 32 (packN R n j.val c.val)) :
    layersVal (F := Ideal) H E b1 w2 b2 w3 b3 (ix2 r 0)
      = headOf (fun k => ∑ v : Fin 896, (((count R n v.val : ℕ) : ℝ) : EReal) * E (ix2 v k)) (fun k => b1 (ix2 0 k)) (fun g k => w2 (ix2 g k))
          (fun g => b2 (ix2 0 g)) (fun g => w3 (ix2 0 g)) (b3 (ix2 0 0)) := by
  have hb : ∀ (j : Fin 2) (c : Fin 128) (k : ℕ), k < 4 → FloatOps.sitofp (F := Ideal) .bf16
      (IntOp.andi (IntOp.shrsi .vector (H (ix4 ⟨r.val / 8, by omega⟩ j ⟨r.val % 8, by omega⟩ c)) (BitVec.ofNat 32 (8 * k))) 255#32)
        = (((count R n (512 * j.val + 128 * k + c.val) : ℕ) : ℝ) : EReal) := fun j c k hk => by
    rw [hH, byte_value _ _ (packN_lt R n j.val c.val c.isLt) hk, byte_packN R n j.val c.val k c.isLt hk]
  unfold layersVal
  pointwise [k2_pay1, k2_pay2, k2_pay3, k2_pay4, k2_pay5, k2_pay6, k2_pay7, k2_pay8, k2_pay9, k2_pay10, k2_pay11, k2_pay12]
  unfold headOf
  refine congrArg (· + b3 (ix2 0 0)) (Finset.sum_congr rfl fun g _ => ?_)
  refine congrArg (fun z : EReal => max (z + b2 (ix2 0 g)) 0 * w3 (ix2 0 g)) (Finset.sum_congr rfl fun k _ => ?_)
  refine congrArg (fun z : EReal => max (z + b1 (ix2 0 k)) 0 * w2 (ix2 g k)) (Finset.sum_congr rfl fun v _ => ?_)
  refine congrArg (fun z : EReal => z * E (ix2 v k)) ?_
  have hv := v.isLt
  split
  · exact (hb 0 _ 0 (by omega)).trans (congrArg (fun x : ℕ => (((count R n x : ℕ) : ℝ) : EReal)) (by show 512 * 0 + 128 * 0 + v.val = v.val; omega))
  split
  · exact (hb 0 _ 1 (by omega)).trans (congrArg (fun x : ℕ => (((count R n x : ℕ) : ℝ) : EReal)) (by show 512 * 0 + 128 * 1 + (v.val - 128) = v.val; omega))
  split
  · exact (hb 0 _ 2 (by omega)).trans (congrArg (fun x : ℕ => (((count R n x : ℕ) : ℝ) : EReal)) (by show 512 * 0 + 128 * 2 + (v.val - 128 - 128) = v.val; omega))
  split
  · exact (hb 0 _ 3 (by omega)).trans (congrArg (fun x : ℕ => (((count R n x : ℕ) : ℝ) : EReal)) (by show 512 * 0 + 128 * 3 + (v.val - 128 - 128 - 128) = v.val; omega))
  split
  · exact (hb 1 _ 0 (by omega)).trans (congrArg (fun x : ℕ => (((count R n x : ℕ) : ℝ) : EReal)) (by show 512 * 1 + 128 * 0 + (v.val - 128 - 128 - 128 - 128) = v.val; omega))
  split
  · exact (hb 1 _ 1 (by omega)).trans (congrArg (fun x : ℕ => (((count R n x : ℕ) : ℝ) : EReal)) (by show 512 * 1 + 128 * 1 + (v.val - 128 - 128 - 128 - 128 - 128) = v.val; omega))
  · exact (hb 1 _ 2 (by omega)).trans (congrArg (fun x : ℕ => (((count R n x : ℕ) : ℝ) : EReal)) (by show 512 * 1 + 128 * 2 + (v.val - 128 - 128 - 128 - 128 - 128 - 128) = v.val; omega))

end Cert.Proof

end
-- ==== Proof.Reference.lean ====
/-
  The reference's value, read at an index over the extended reals: a row of its result is the network's last layers on
  the inner products of the rows' sum, the rows being those of the table that the row of indices names.
-/
module

public import proofs.«01_k».proof.Proof.Layers
public import proofs.«01_k».proof.Proof.Ranges
public import proofs.«01_k».proof.Proof.Gen.ReferenceIdeal

@[expose] public section

noncomputable section

namespace Cert.Proof

open Cert.ReferenceIdeal Cert.ReferenceIdeal.Gen

open Idealize.ShloMosaic

set_option maxRecDepth 16384

/-- The indices as the gather takes them: a negative one counts from the table's end. -/
def startsOf (x : S16384x64.Idx → BitVec 32) : S16384x64x1.Idx → BitVec 32 :=
  broadcastInDim S16384x64x1 ![0, 1] bcast_S16384x64_S16384x64x1_0_1 (select (cmpi .slt x (broadcastInDim S16384x64 ![] bcast_S_S16384x64 (constantI S_ 32 0#32)))
    (addi x (broadcastInDim S16384x64 ![] bcast_S_S16384x64 (constantI S_ 32 832#32))) x)

/-- Where an index names a row, as the gather's mask has it. -/
def insideOf (x : S16384x64.Idx → BitVec 32) : S16384x64.Idx → BitVec 1 :=
  Host.reduce IntOp.andi (andi (cmpi .sge (startsOf x) (broadcastInDim S16384x64x1 ![] bcast_S_S16384x64x1 (constantI S_ 32 0#32)))
    (cmpi .sle (startsOf x) (broadcastInDim S16384x64x1 ![0, 1, 2] bcast_S1x1x1_S16384x64x1_0_1_2 (broadcastInDim S1x1x1 ![2] bcast_S1_S1x1x1_2 (constantI S1 32 831#32)))))
    (constantI S_ 1 1#1) reducesTo_S16384x64x1_S16384x64_d2 h_S_

/-- The rows gathered, one for each index. -/
def takenOf (x : S16384x64.Idx → BitVec 32) (e : S832x1024.Idx → EReal) : S16384x64x1024.Idx → EReal :=
  select (broadcastInDim S16384x64x1024 ![0, 1] bcast_S16384x64_S16384x64x1024_0_1 (insideOf x))
    (Host.gather gather_S832x1024_S16384x64x1_S16384x64x1024_2_0_n_n_0_2_11024 e (startsOf x))
    (broadcastInDim S16384x64x1024 ![] bcast_S_S16384x64x1024 (constant (F := Ideal) S_ .f32 0x7FC00000#32))

/-- The layers on gathered rows `t`. -/
def refLayers (t : S16384x64x1024.Idx → EReal) (w1 : S512x1024.Idx → EReal) (b1 : S512.Idx → EReal) (w2 : S256x512.Idx → EReal) (b2 : S256.Idx → EReal)
    (w3 : S1x256.Idx → EReal) (b3 : S1.Idx → EReal) : S16384x1.Idx → EReal :=
  addf (F := Ideal) (φ := .f32) (Host.dotGeneral (F := Ideal) (φ₁ := .f32) (φ₂ := .f32) dot_S16384x256_S256x1_S16384x1_1_0_0_1_n_n none (maximumf (F := Ideal) (φ := .f32) (addf (F := Ideal) (φ := .f32) (Host.dotGeneral (F := Ideal) (φ₁ := .f32) (φ₂ := .f32) dot_S16384x512_S512x256_S16384x256_1_0_0_1_n_n none
    (maximumf (F := Ideal) (φ := .f32) (addf (F := Ideal) (φ := .f32) (Host.dotGeneral (F := Ideal) (φ₁ := .f32) (φ₂ := .f32) dot_S16384x1024_S1024x512_S16384x512_1_0_0_1_n_n none
      (Host.reduceAdd (F := Ideal) (φ := .f32) t (constant (F := Ideal) S_ .f32 0x00000000#32) reducesTo_S16384x64x1024_S16384x1024_d1 h_S_)
      (transpose S1024x512 [1, 0] w1 transposes_S512x1024_S1024x512_1_0))
      (broadcastInDim S16384x512 ![0, 1] bcast_S1x512_S16384x512_0_1 (broadcastInDim S1x512 ![1] bcast_S512_S1x512_1 b1)))
      (broadcastInDim S16384x512 ![] bcast_S_S16384x512 (constant (F := Ideal) S_ .f32 0x00000000#32)))
    (transpose S512x256 [1, 0] w2 transposes_S256x512_S512x256_1_0))
    (broadcastInDim S16384x256 ![0, 1] bcast_S1x256_S16384x256_0_1 (broadcastInDim S1x256 ![1] bcast_S256_S1x256_1 b2)))
    (broadcastInDim S16384x256 ![] bcast_S_S16384x256 (constant (F := Ideal) S_ .f32 0x00000000#32)))
    (transpose S256x1 [1, 0] w3 transposes_S1x256_S256x1_1_0))
    (broadcastInDim S16384x1 ![0, 1] bcast_S1x1_S16384x1_0_1 (broadcastInDim S1x1 ![1] bcast_S1_S1x1_1 b3))

/-- An index that names a row is taken as it is. -/
theorem startsOf_apply (x : S16384x64.Idx → BitVec 32) (r : Fin 16384) (p : Fin 64) (z : Fin 1) (h : (x (ix2 r p)).toNat < 832) :
    startsOf x (ix3 r p z) = x (ix2 r p) := by
  have hn : IntOp.cmpi .slt (x (ix2 r p)) 0#32 = 0#1 := by
    rcases BitVec.eq_zero_or_eq_one (IntOp.cmpi .slt (x (ix2 r p)) 0#32) with h0 | h1
    · exact h0
    · have := IntOp.cmpi_slt.1 h1
      simp only [BitVec.toInt_eq_toNat_cond, BitVec.toNat_ofNat, Nat.reducePow, Nat.reduceMod] at this
      omega
  unfold startsOf
  pointwise
  rw [hn]
  rfl

/-- Where every index names a row the mask lets every row through. -/
theorem insideOf_apply (x : S16384x64.Idx → BitVec 32) (hx : ∀ i, (x i).toNat < 832) (j : S16384x64.Idx) : insideOf x j = 1#1 := by
  refine Host.reduce_andi_one _ _ _ _ _ rfl fun i => ?_
  obtain ⟨r, p, z, rfl⟩ : ∃ r p z, i = ix3 r p z := ⟨i 0, i 1, i 2, eq_ix3 i⟩
  have h := hx (ix2 r p)
  pointwise
  rw [startsOf_apply x r p z h]
  refine IntOp.andi_eq_one.2 ⟨IntOp.cmpi_sge.2 ?_, IntOp.cmpi_sle.2 ?_⟩ <;>
  · simp only [BitVec.toInt_eq_toNat_cond, BitVec.toNat_ofNat, Nat.reducePow, Nat.reduceMod]
    omega

/-- The gather's entry: an entry of the row whose number the start holds. -/
theorem rows_apply (e : S832x1024.Idx → EReal) (s : S16384x64x1.Idx → BitVec 32) (r : Fin 16384) (p : Fin 64) (t : Fin 1024)
    (h : (s (ix3 r p 0)).toNat < 832) :
    Host.gather gather_S832x1024_S16384x64x1_S16384x64x1024_2_0_n_n_0_2_11024 e s (ix3 r p t) = e (ix2 ⟨(s (ix3 r p 0)).toNat, h⟩ t) := by
  have hm : min (s (ix3 r p 0)).toInt.toNat 831 = (s (ix3 r p 0)).toNat := by
    rw [BitVec.toInt_eq_toNat_of_lt (by omega)]
    omega
  refine congrArg e (funext fun a => Fin.ext ?_)
  match a with
  | ⟨0, _⟩ =>
    refine Eq.trans ?_ hm
    have hs : (gather_S832x1024_S16384x64x1_S16384x64x1024_2_0_n_n_0_2_11024).siIdx (ix3 r p t) ⟨0, Nat.one_pos⟩ = ix3 r p 0 := by
      funext b
      match b with
      | ⟨0, _⟩ => rfl
      | ⟨1, _⟩ => rfl
      | ⟨2, _⟩ => rfl
    rw [← hs]
    rfl
  | ⟨1, _⟩ =>
    show 0 + 0 + t.val = t.val
    omega

/-- The gathered rows are the rows that the indices name. -/
theorem takenOf_apply (x : S16384x64.Idx → BitVec 32) (e : S832x1024.Idx → EReal) (hx : ∀ i, (x i).toNat < 832) (r : Fin 16384) (p : Fin 64) (t : Fin 1024) :
    takenOf x e (ix3 r p t) = e (ix2 ⟨(x (ix2 r p)).toNat, hx _⟩ t) := by
  have hs := startsOf_apply x r p 0 (hx _)
  unfold takenOf
  pointwise
  rw [insideOf_apply x hx, rows_apply e (startsOf x) r p t (by rw [hs]; exact hx _)]
  simp only [hs]
  rfl

/-- A row of the reference's result. -/
theorem refLayers_apply (t : S16384x64x1024.Idx → EReal) (w1 : S512x1024.Idx → EReal) (b1 : S512.Idx → EReal) (w2 : S256x512.Idx → EReal) (b2 : S256.Idx → EReal)
    (w3 : S1x256.Idx → EReal) (b3 : S1.Idx → EReal) (r : Fin 16384) :
    refLayers t w1 b1 w2 b2 w3 b3 (ix2 r 0)
      = headOf (fun k => ∑ d : Fin 1024, (∑ p : Fin 64, t (ix3 r p d)) * w1 (ix2 k d)) (fun k => b1 (ix1 k)) (fun g k => w2 (ix2 g k))
          (fun g => b2 (ix1 g)) (fun g => w3 (ix2 0 g)) (b3 (ix1 0)) := by
  unfold refLayers headOf
  pointwise

end Cert.Proof

end
-- ==== Proof.Sums.lean ====
/-
  The sum that the kernel takes over the table's rows and the sum that the reference takes over the indices are one.
-/
module

public import proofs.«01_k».proof.Proof.Layers

@[expose] public section

noncomputable section

namespace Cert.Proof

open Cert.Proof.Hist

open Idealize.ShloMosaic

/-- A sum of real numbers, taken over the extended reals. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- Summing the table's products over the rows, each as often as it is named, sums the named rows first. -/
theorem counts_sum (X : ℕ → BitVec 32) (hX : ∀ p < 64, (X p).toNat < 832) (e : Fin 832 → Fin 1024 → EReal) (w : Fin 1024 → EReal)
    (he : ∀ v d, e v d ≠ ⊤ ∧ e v d ≠ ⊥) (hw : ∀ d, w d ≠ ⊤ ∧ w d ≠ ⊥) :
    ∑ v : Fin 896, ((((((Finset.range 64).filter fun q => (X q).toNat = v.val).card : ℕ) : ℝ)) : EReal) * (if h : v.val < 832 then ∑ d, e ⟨v.val, h⟩ d * w d else 0)
      = ∑ d, (∑ p : Fin 64, e ⟨(X p.val).toNat, hX p.val p.isLt⟩ d) * w d := by
  obtain ⟨e', rfl⟩ : ∃ e' : Fin 832 → Fin 1024 → ℝ, e = fun v d => ((e' v d : ℝ) : EReal) :=
    ⟨fun v d => (e v d).toReal, funext fun v => funext fun d => (EReal.coe_toReal (he v d).1 (he v d).2).symm⟩
  obtain ⟨w', rfl⟩ : ∃ w' : Fin 1024 → ℝ, w = fun d => ((w' d : ℝ) : EReal) :=
    ⟨fun d => (w d).toReal, funext fun d => (EReal.coe_toReal (hw d).1 (hw d).2).symm⟩
  -- the entries of the projected table, the rows past its end zero
  let P : ℕ → ℝ := fun v => if h : v < 832 then ∑ d, e' ⟨v, h⟩ d * w' d else 0
  have hP : ∀ v : ℕ, (if h : v < 832 then ∑ d, ((e' ⟨v, h⟩ d : ℝ) : EReal) * ((w' d : ℝ) : EReal) else 0) = ((P v : ℝ) : EReal) := fun v => by
    dsimp only [P]
    split
    · rw [coe_sum]
      exact Finset.sum_congr rfl fun d _ => (EReal.coe_mul _ _).symm
    · rfl
  have hl : ∑ v : Fin 896, (((((Finset.range 64).filter fun q => (X q).toNat = v.val).card : ℕ) : ℝ)) * P v.val = ∑ p : Fin 64, P (X p.val).toNat := by
    calc ∑ v : Fin 896, (((((Finset.range 64).filter fun q => (X q).toNat = v.val).card : ℕ) : ℝ)) * P v.val
        = ∑ v : Fin 896, ∑ q ∈ Finset.range 64, if (X q).toNat = v.val then P (X q).toNat else 0 := by
          refine Finset.sum_congr rfl fun v _ => ?_
          rw [← Finset.sum_filter, Finset.sum_congr rfl (g := fun _ => P v.val) fun q hq => by rw [(Finset.mem_filter.1 hq).2], Finset.sum_const, nsmul_eq_mul]
      _ = ∑ q ∈ Finset.range 64, ∑ v : Fin 896, if (X q).toNat = v.val then P (X q).toNat else 0 := Finset.sum_comm
      _ = ∑ q ∈ Finset.range 64, P (X q).toNat := by
          refine Finset.sum_congr rfl fun q hq => ?_
          have hq' := hX q (Finset.mem_range.1 hq)
          rw [Finset.sum_eq_single (⟨(X q).toNat, by omega⟩ : Fin 896)]
          · exact if_pos rfl
          · exact fun v _ hv => if_neg fun h => hv (Fin.ext h.symm)
          · exact fun h => absurd (Finset.mem_univ _) h
      _ = ∑ p : Fin 64, P (X p.val).toNat := (Fin.sum_univ_eq_sum_range (fun q => P (X q).toNat) 64).symm
  have hr : ∑ p : Fin 64, P (X p.val).toNat = ∑ d, (∑ p : Fin 64, e' ⟨(X p.val).toNat, hX p.val p.isLt⟩ d) * w' d := by
    simp only [Finset.sum_mul]
    rw [Finset.sum_comm]
    exact Finset.sum_congr rfl fun p _ => dif_pos (hX p.val p.isLt)
  simp only [hP]
  simp only [← EReal.coe_mul, ← coe_sum]
  rw [hl, hr]

end Cert.Proof

end
-- ==== Proof.Result.lean ====
/-
  The kernel's result is the reference's: a row of a chunk's output is the reference's row, the counts' sum being the
  sum over the indices, and the two chunks laid end to end are the whole result.
-/
module

public import proofs.«01_k».proof.Proof.Chain
public import proofs.«01_k».proof.Proof.Reference
public import proofs.«01_k».proof.Proof.Sums

@[expose] public section

noncomputable section

namespace Cert.Proof

open Cert.KernelIdeal Cert.KernelIdeal.Gen Cert.Proof.Hist

open Idealize.ShloMosaic

set_option maxRecDepth 16384

/-- The reference's result, from its arguments. -/
def refVal (x : S16384x64.Idx → BitVec 32) (e : S832x1024.Idx → EReal) (w1 : S512x1024.Idx → EReal) (b1 : S512.Idx → EReal) (w2 : S256x512.Idx → EReal)
    (b2 : S256.Idx → EReal) (w3 : S1x256.Idx → EReal) (b3 : S1.Idx → EReal) : S16384x1.Idx → EReal :=
  refLayers (takenOf x e) w1 b1 w2 b2 w3 b3

/-- A chunk's output, from the arguments. -/
def chunkVal (q : Fin 2) (x : S16384x64.Idx → BitVec 32) (e : S832x1024.Idx → EReal) (w1 : S512x1024.Idx → EReal) (b1 : S512.Idx → EReal) (w2 : S256x512.Idx → EReal)
    (b2 : S256.Idx → EReal) (w3 : S1x256.Idx → EReal) (b3 : S1.Idx → EReal) : S8192x1.Idx → EReal :=
  outVal (F := Ideal) (shapeCast S1024x2x8x128 (words x q) shapeCasts_S2097152_S1024x2x8x128) (tableVal (F := Ideal) e w1) (shapeCast S1x512 b1 shapeCasts_S512_S1x512) w2
    (shapeCast S1x256 b2 shapeCasts_S256_S1x256) w3 (shapeCast S1x1 b3 shapeCasts_S1_S1x1)

/-- A packed word of the counts, where the reshape puts it. -/
theorem word_at (x : S16384x64.Idx → BitVec 32) (q : Fin 2) (a : Fin 1024) (j : Fin 2) (b : Fin 8) (c : Fin 128) :
    shapeCast S1024x2x8x128 (words x q) shapeCasts_S2097152_S1024x2x8x128 (ix4 a j b c) = BitVec.ofNat 32 (packN (rowsOf x q) (8 * a.val + b.val) j.val c.val) := by
  have ha := a.isLt
  have hj := j.isLt
  have hb := b.isLt
  have hc := c.isLt
  pointwise
  unfold words outWord
  congr 2
  all_goals simp only [ix1]
  all_goals omega

/-- The first layer's biases, as a row. -/
theorem bias_512 (b : S512.Idx → EReal) (k : Fin 512) : shapeCast S1x512 b shapeCasts_S512_S1x512 (ix2 0 k) = b (ix1 k) := by
  pointwise

/-- The second layer's. -/
theorem bias_256 (b : S256.Idx → EReal) (k : Fin 256) : shapeCast S1x256 b shapeCasts_S256_S1x256 (ix2 0 k) = b (ix1 k) := by
  pointwise

/-- The third layer's. -/
theorem bias_1 (b : S1.Idx → EReal) : shapeCast S1x1 b shapeCasts_S1_S1x1 (ix2 0 0) = b (ix1 0) := by
  pointwise

section Rows

variable (q : Fin 2) (x : S16384x64.Idx → BitVec 32) (e : S832x1024.Idx → EReal) (w1 : S512x1024.Idx → EReal) (b1 : S512.Idx → EReal) (w2 : S256x512.Idx → EReal)
  (b2 : S256.Idx → EReal) (w3 : S1x256.Idx → EReal) (b3 : S1.Idx → EReal)

/-- A row of a chunk's output, from the row's counts. -/
theorem chunk_row (r : Fin 8192) : chunkVal q x e w1 b1 w2 b2 w3 b3 (ix2 r 0)
    = headOf (fun k => ∑ v : Fin 896, (((count (rowsOf x q) r.val v.val : ℕ) : ℝ) : EReal) * (if h : v.val < 832 then ∑ d : Fin 1024, e (ix2 ⟨v.val, h⟩ d) * w1 (ix2 k d) else 0))
        (fun k => b1 (ix1 k)) (fun g k => w2 (ix2 g k)) (fun g => b2 (ix1 g)) (fun g => w3 (ix2 0 g)) (b3 (ix1 0)) := by
  have hr := r.isLt
  have hi : rowIn r.val = ix2 (⟨r.val % 1024, Nat.mod_lt _ (by decide)⟩ : Fin 1024) (0 : Fin 1) := funext fun a => match a with
    | ⟨0, _⟩ => rfl
    | ⟨1, _⟩ => rfl
  have hw := layersVal_row (fun y => shapeCast S1024x2x8x128 (words x q) shapeCasts_S2097152_S1024x2x8x128 (rowAt (r.val / 1024) y (Nat.div_lt_of_lt_mul r.isLt)))
    (tableVal (F := Ideal) e w1) (shapeCast S1x512 b1 shapeCasts_S512_S1x512) w2 (shapeCast S1x256 b2 shapeCasts_S256_S1x256) w3 (shapeCast S1x1 b3 shapeCasts_S1_S1x1)
    (rowsOf x q) r.val ⟨r.val % 1024, Nat.mod_lt _ (by decide)⟩ (fun j c => by
      have hb := word_at x q ⟨128 * (r.val / 1024) + r.val % 1024 / 8, by omega⟩ j ⟨r.val % 1024 % 8, by omega⟩ c
      have hn : 8 * (128 * (r.val / 1024) + r.val % 1024 / 8) + r.val % 1024 % 8 = r.val := by omega
      rw [hn] at hb
      refine Eq.trans (congrArg (shapeCast S1024x2x8x128 (words x q) shapeCasts_S2097152_S1024x2x8x128) (funext fun a => ?_)) hb
      match a with
      | ⟨0, _⟩ => rfl
      | ⟨1, _⟩ => rfl
      | ⟨2, _⟩ => rfl
      | ⟨3, _⟩ => rfl)
  rw [← hi] at hw
  refine Eq.trans hw ?_
  simp only [tableVal_apply, bias_512, bias_256, bias_1]

/-- An entry of the array of indices, by its coordinates. -/
theorem cell_eq (R : Fin 16384) (p : Fin 64) : cell R.val p.val = ix2 R p := funext fun a => match a with
  | ⟨0, _⟩ => Fin.ext (Nat.mod_eq_of_lt R.isLt)
  | ⟨1, _⟩ => Fin.ext (Nat.mod_eq_of_lt p.isLt)

/-- The same row of the reference's. -/
theorem chunk_ref (hx : ∀ i, (x i).toNat < 832) (he : ∀ i, e i ≠ ⊤ ∧ e i ≠ ⊥) (hw : ∀ i, w1 i ≠ ⊤ ∧ w1 i ≠ ⊥) (r : Fin 8192) (R : Fin 16384)
    (hR : R.val = 8192 * q.val + r.val) : chunkVal q x e w1 b1 w2 b2 w3 b3 (ix2 r 0) = refVal x e w1 b1 w2 b2 w3 b3 (ix2 R 0) := by
  rw [chunk_row]
  unfold refVal
  rw [refLayers_apply]
  refine congrArg (fun A => headOf A _ _ _ _ _) (funext fun k => ?_)
  have hX : ∀ p : Fin 64, rowsOf x q r.val p.val = x (ix2 R p) := fun p => by
    unfold rowsOf
    rw [← hR, cell_eq]
  refine (counts_sum (rowsOf x q r.val) (fun p _ => hx _) (fun v d => e (ix2 v d)) (fun d => w1 (ix2 k d)) (fun v d => he _) (fun d => hw _)).trans ?_
  refine Finset.sum_congr rfl fun d _ => congrArg (· * w1 (ix2 k d)) (Finset.sum_congr rfl fun p _ => ?_)
  rw [takenOf_apply x e hx R p d]
  refine congrArg e (congrArg (fun v => ix2 v d) (Fin.ext ?_))
  show (rowsOf x q r.val p.val).toNat = _
  rw [hX]

/-- The whole result. -/
theorem result_ref (hx : ∀ i, (x i).toNat < 832) (he : ∀ i, e i ≠ ⊤ ∧ e i ≠ ⊥) (hw : ∀ i, w1 i ≠ ⊤ ∧ w1 i ≠ ⊥) :
    concatenate S16384x1 0 [⟨S8192x1, chunkVal 0 x e w1 b1 w2 b2 w3 b3⟩, ⟨S8192x1, chunkVal 1 x e w1 b1 w2 b2 w3 b3⟩] concatenates_S8192x1_S8192x1_S16384x1_d0
      = refVal x e w1 b1 w2 b2 w3 b3 := by
  funext j
  obtain ⟨R, z, rfl⟩ : ∃ R z, j = ix2 R z := ⟨j 0, j 1, eq_ix2 j⟩
  obtain rfl : z = 0 := Subsingleton.elim _ _
  have hR := R.isLt
  pointwise
  split
  · next h => exact chunk_ref 0 x e w1 b1 w2 b2 w3 b3 hx he hw _ R (by show R.val = 8192 * 0 + R.val; omega)
  · next h => exact chunk_ref 1 x e w1 b1 w2 b2 w3 b3 hx he hw _ R (by show R.val = 8192 * 1 + (R.val - 8192); omega)

end Rows

end Cert.Proof

end
-- ==== Proof.Values.lean ====
/-
  The value claim: on the same arguments, the kernel's program and the reference leave the same result.
-/
module

public import proofs.«01_k».proof.Proof.Frames
public import proofs.«01_k».proof.Proof.Result

@[expose] public section

noncomputable section

namespace Cert.Proof

open Cert.KernelIdeal Cert.KernelIdeal.Gen Cert.Proof.Hist

open Idealize.ShloMosaic Idealize.ShloMosaic.TcCoe

section Ends

variable (m : (ℓ : Loc nD τ sig) → Buf (Elt Ideal) ℓ) (d : Dev nD)

/-- An argument, at the start. -/
abbrev arg (b : Ref sig .tc) : Buf (Elt Ideal) ((SparseCore.T d : Thread nD τ).loc b) := at_ (W0 m d) d b

/-- The first layer's biases, when the first chunk's layers read them. -/
theorem first_bias_first : at_ (W7 m d) d main_v1 = shapeCast S1x512 (arg m d main_arg3 : S512.Idx → EReal) shapeCasts_S512_S1x512 := by
  refine (keep7 m d (r := main_v1) (by decide)).trans <| (keep6 m d (r := main_v1) (by decide)).trans <| (keep5 m d (r := main_v1) (by decide)).trans <|
    (keep4 m d (r := main_v1) (by decide)).trans <| (keep3 m d (r := main_v1) (by decide)).trans <| (StableHlo.reshape_result main_arg3 main_v1 rfl _ _ _ (W1 m d)).trans ?_
  rw [keep1 m d (r := main_arg3) (by decide)]
  rfl

/-- The second layer's. -/
theorem first_bias_second : at_ (W7 m d) d main_v2 = shapeCast S1x256 (arg m d main_arg5 : S256.Idx → EReal) shapeCasts_S256_S1x256 := by
  refine (keep7 m d (r := main_v2) (by decide)).trans <| (keep6 m d (r := main_v2) (by decide)).trans <| (keep5 m d (r := main_v2) (by decide)).trans <|
    (keep4 m d (r := main_v2) (by decide)).trans <| (StableHlo.reshape_result main_arg5 main_v2 rfl _ _ _ (W2 m d)).trans ?_
  rw [keep2 m d (r := main_arg5) (by decide), keep1 m d (r := main_arg5) (by decide)]
  rfl

/-- The third layer's. -/
theorem first_bias_third : at_ (W7 m d) d main_v3 = shapeCast S1x1 (arg m d main_arg7 : S1.Idx → EReal) shapeCasts_S1_S1x1 := by
  refine (keep7 m d (r := main_v3) (by decide)).trans <| (keep6 m d (r := main_v3) (by decide)).trans <| (keep5 m d (r := main_v3) (by decide)).trans <|
    (StableHlo.reshape_result main_arg7 main_v3 rfl _ _ _ (W3 m d)).trans ?_
  rw [keep3 m d (r := main_arg7) (by decide), keep2 m d (r := main_arg7) (by decide), keep1 m d (r := main_arg7) (by decide)]
  rfl

/-- What the first call's statements leave alone from the table's projection on. -/
theorem early {r : Ref sig .tc} (h : r ∉ [main_v1, main_v2, main_v3, main_v4, main_v5, main_v6]) : at_ (W7 m d) d r = at_ (W1 m d) d r := by
  simp only [List.mem_cons, List.not_mem_nil, or_false, not_or] at h
  obtain ⟨h1, h2, h3, h4, h5, h6⟩ := h
  exact (keep7 m d h6).trans <| (keep6 m d h5).trans <| (keep5 m d h4).trans <| (keep4 m d h3).trans <| (keep3 m d h2).trans (keep2 m d h1)

/-- And the second's, from the first's output on. -/
theorem late {r : Ref sig .tc} (h : r ∉ [main_v7, main_v8, main_v9, main_v10]) : at_ (W11 m d) d r = at_ (W7 m d) d r := by
  simp only [List.mem_cons, List.not_mem_nil, or_false, not_or] at h
  obtain ⟨h7, h8, h9, h10⟩ := h
  exact (keep11 m d h10).trans <| (keep10 m d h9).trans <| (keep9 m d h8).trans (keep8 m d h7)

/-- The projected table, when the first chunk's layers read it. -/
theorem table_early : at_ (W7 m d) d main_v0 = tableVal (F := Ideal) (arg m d main_arg1) (arg m d main_arg2) :=
  (early m d (by decide)).trans (put_same _ main_v0 _)

/-- The arguments, when the first chunk's layers read them. -/
theorem weights_early {r : Ref sig .tc} (h : r ∉ written) : at_ (W7 m d) d r = arg m d r := by
  simp only [written, List.mem_cons, List.not_mem_nil, or_false, not_or] at h
  obtain ⟨h0, h1, h2, h3, h4, h5, h6, -⟩ := h
  exact (early m d (by simp only [List.mem_cons, List.not_mem_nil, or_false, not_or]; exact ⟨h1, h2, h3, h4, h5, h6⟩)).trans (keep1 m d h0)

/-- The first chunk's counts. -/
theorem counts_first : at_ (W7 m d) d main_v6 = shapeCast S1024x2x8x128 (words (arg m d main_arg0) 0) shapeCasts_S2097152_S1024x2x8x128 := by
  refine (StableHlo.reshape_result main_v5 main_v6 rfl _ _ _ (W6 m d)).trans ?_
  rw [show W6 m d (Proc.devRef .tc main_v5) = words (arg m d main_arg0) 0 from put_same _ main_v5 _]
  rfl

/-- The second chunk's counts. -/
theorem counts_second : at_ (W11 m d) d main_v10 = shapeCast S1024x2x8x128 (words (arg m d main_arg0) 1) shapeCasts_S2097152_S1024x2x8x128 := by
  refine (StableHlo.reshape_result main_v9 main_v10 rfl _ _ _ (W10 m d)).trans ?_
  rw [show W10 m d (Proc.devRef .tc main_v9) = words (arg m d main_arg0) 1 from put_same _ main_v9 _]
  rfl

/-- The first chunk's output. -/
theorem out_first : at_ (W12 m d) d main_v7 = chunkVal 0 (arg m d main_arg0) (arg m d main_arg1) (arg m d main_arg2) (arg m d main_arg3) (arg m d main_arg4)
    (arg m d main_arg5) (arg m d main_arg6) (arg m d main_arg7) := by
  refine (keep12 m d (r := main_v7) (by decide)).trans <| (keep11 m d (r := main_v7) (by decide)).trans <| (keep10 m d (r := main_v7) (by decide)).trans <|
    (keep9 m d (r := main_v7) (by decide)).trans <| (put_same _ main_v7 _).trans ?_
  rw [counts_first, table_early, first_bias_first, first_bias_second, first_bias_third, weights_early m d (r := main_arg4) (by decide), weights_early m d (r := main_arg6) (by decide)]
  rfl

/-- The second chunk's. -/
theorem out_second : at_ (W12 m d) d main_v11 = chunkVal 1 (arg m d main_arg0) (arg m d main_arg1) (arg m d main_arg2) (arg m d main_arg3) (arg m d main_arg4)
    (arg m d main_arg5) (arg m d main_arg6) (arg m d main_arg7) := by
  refine (put_same _ main_v11 _).trans ?_
  rw [counts_second, late m d (r := main_v0) (by decide), late m d (r := main_v1) (by decide), late m d (r := main_v2) (by decide), late m d (r := main_v3) (by decide),
    late m d (r := main_arg4) (by decide), late m d (r := main_arg6) (by decide), table_early, first_bias_first, first_bias_second, first_bias_third,
    weights_early m d (r := main_arg4) (by decide), weights_early m d (r := main_arg6) (by decide)]
  rfl

/-- The result, from the arguments. -/
theorem out_whole (h : Cert.Pre_KernelIdeal_rows_named_finite m) : at_ (W13 m d) d main_v12 = refVal (arg m d main_arg0) (arg m d main_arg1) (arg m d main_arg2)
    (arg m d main_arg3) (arg m d main_arg4) (arg m d main_arg5) (arg m d main_arg6) (arg m d main_arg7) := by
  refine (StableHlo.binary_result _ _ _ _ _ _ _ (W12 m d)).trans ?_
  rw [show W12 m d (Proc.devRef .tc main_v7) = _ from out_first m d, show W12 m d (Proc.devRef .tc main_v11) = _ from out_second m d]
  exact result_ref (arg m d main_arg0) (arg m d main_arg1) (arg m d main_arg2) (arg m d main_arg3) (arg m d main_arg4) (arg m d main_arg5) (arg m d main_arg6) (arg m d main_arg7)
    (rows_of_named_finite (h d)) (table_finite (h d)) (weights_finite (h d))

end Ends

/-- The kernel's program and the reference, on the same arguments, leave the same result. -/
theorem values : Cert.algebraic_KernelIdeal_ReferenceIdeal_pre_rows_named_finite := by
  intro m ρ m' ρ' h hargs
  refine ⟨fun c => at_ (W13 m c) c main_v12, ?_, ?_⟩
  · exact (θ_run _ _ _).mono (fun r hq c => ⟨hq.1 c main_v12 (by decide), args_kept hq c⟩) (run_main m ρ fun d i => rows_of_named_finite (h d) i)
  · refine (θ_run (Cert.ReferenceIdeal.defs (F := Ideal)) _ _).mono (fun r hr c => ⟨(hr c).1.trans ?_, (hr c).2⟩) (Cert.ReferenceIdeal.Value.run (F := Ideal) m' ρ')
    obtain ⟨e0, e1, e2, e3, e4, e5, e6, e7⟩ := hargs c
    refine Eq.trans ?_ (out_whole m c h).symm
    rw [e0, e1, e2, e3, e4, e5, e6, e7]
    rfl

end Cert.Proof

end
-- ==== Proof.lean ====
/-
  The proof of `Cert.Claim`.
-/
module

public import proofs.«01_k».proof.Proof.Values

@[expose] public section

noncomputable section

namespace Cert.Proof

theorem claim : Cert.Claim := ⟨Cert.Kernel.Gen.facts, Cert.KernelIdeal.Gen.facts, Cert.ReferenceIdeal.Gen.facts,
  Cert.Pre_rows_named.Gen.facts, Cert.Pre_rows_named_finite.Gen.facts, frame_kernel, frame_ideal, frame_ideal_finite, frame_reference,
  frame_reference_finite, trivial, values⟩

end Cert.Proof

end
